-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_numbers [hPre_scales_are_numbers : Cert.Pre_scales_are_numbers.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_numbers [hPre_scales_are_numbers : Cert.Pre_scales_are_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scales_are_numbers [hKernelIdeal : Cert.KernelIdeal.Facts] [hPre_scales_are_numbers : Cert.Pre_scales_are_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scales_are_numbers [hReferenceIdeal : Cert.ReferenceIdeal.Facts] [hPre_scales_are_numbers : Cert.Pre_scales_are_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pair.Statement Cert.KernelIdeal.S128x128 Cert.KernelIdeal.S64x128

def algebraic_KernelIdeal_ReferenceIdeal_pre_scales_are_numbers [hKernelIdeal : Cert.KernelIdeal.Facts] [hReferenceIdeal : Cert.ReferenceIdeal.Facts] [hPre_scales_are_numbers : Cert.Pre_scales_are_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scales_are_numbers : Cert.Pre_scales_are_numbers.Facts),
    quiescent_Kernel (hKernel := hKernel)
    ∧ quiescent_KernelIdeal (hKernelIdeal := hKernelIdeal)
    ∧ quiescent_KernelIdeal_pre_scales_are_numbers (hKernelIdeal := hKernelIdeal) (hPre_scales_are_numbers := hPre_scales_are_numbers)
    ∧ quiescent_ReferenceIdeal (hReferenceIdeal := hReferenceIdeal)
    ∧ quiescent_ReferenceIdeal_pre_scales_are_numbers (hReferenceIdeal := hReferenceIdeal) (hPre_scales_are_numbers := hPre_scales_are_numbers)
    ∧ preserves_Kernel_KernelIdeal
    ∧ algebraic_KernelIdeal_ReferenceIdeal_pre_scales_are_numbers (hKernelIdeal := hKernelIdeal) (hReferenceIdeal := hReferenceIdeal) (hPre_scales_are_numbers := hPre_scales_are_numbers)
-- ==== Pre_scales_are_numbers.lean ====
abbrev S4x2048x7168 : Shape := ⟨3, ![4, 2048, 7168]⟩
abbrev S12288x7168 : Shape := ⟨2, ![12288, 7168]⟩
abbrev S12288x224 : Shape := ⟨2, ![12288, 224]⟩
abbrev S12288 : Shape := ⟨1, ![12288]⟩
abbrev S_ : Shape := ⟨0, ![]⟩

class Facts : Prop where
  natLt_8_32 : 8 < 32
  bcast_S_S12288x224 : S_.BroadcastsInDim S12288x224 (![] : Fin 0 → Fin S12288x224.rank)
  reducesTo_S12288x224_S_d0_1 : S12288x224.ReducesTo [0, 1] S_
  h_S_ : 0 < S_.numel

variable [Facts]

def fn {F : FTy → Type} [FloatOps F] (main_arg0 : FVec F S4x2048x7168 .bf16) (main_arg1 : FVec F S12288x7168 .fp8e4m3) (main_arg2 : IVec S12288x224 8) (main_arg3 : FVec F S12288 .f32) : IVec S_ 1 :=
  let main_v0 : IVec S12288x224 32 := (extui 32 · natLt_8_32) main_arg2
  let main_c : IVec S_ 32 := constantI S_ 32 255#32
  let main_v1 : IVec S12288x224 32 := broadcastInDim S12288x224 ![] bcast_S_S12288x224 main_c
  let main_v2 : IVec S12288x224 1 := cmpi .slt main_v0 main_v1
  let main_c_0 : IVec S_ 1 := constantI S_ 1 1#1
  let main_v3 : IVec S_ 1 := (fun x v => Host.reduce IntOp.andi x v reducesTo_S12288x224_S_d0_1 h_S_) main_v2 main_c_0
  main_v3
-- ==== Kernel.lean ====
abbrev S4x2048x7168 : Shape := ⟨3, ![4, 2048, 7168]⟩
abbrev S12288x7168 : Shape := ⟨2, ![12288, 7168]⟩
abbrev S12288x224 : Shape := ⟨2, ![12288, 224]⟩
abbrev S12288 : Shape := ⟨1, ![12288]⟩
abbrev S8192x7168 : Shape := ⟨2, ![8192, 7168]⟩
abbrev S7168x224 : Shape := ⟨2, ![7168, 224]⟩
abbrev S_ : Shape := ⟨0, ![]⟩
abbrev S224x7168 : Shape := ⟨2, ![224, 7168]⟩
abbrev S8192x224 : Shape := ⟨2, ![8192, 224]⟩
abbrev S128x7168 : Shape := ⟨2, ![128, 7168]⟩
abbrev S128x224 : Shape := ⟨2, ![128, 224]⟩
abbrev S128x128 : Shape := ⟨2, ![128, 128]⟩
abbrev S64x128 : Shape := ⟨2, ![64, 128]⟩
abbrev S1x12288 : Shape := ⟨2, ![1, 12288]⟩
abbrev S8192x12288 : Shape := ⟨2, ![8192, 12288]⟩
abbrev S1024x7168 : Shape := ⟨2, ![1024, 7168]⟩
abbrev S512x7168 : Shape := ⟨2, ![512, 7168]⟩
abbrev S1x512 : Shape := ⟨2, ![1, 512]⟩
abbrev S1024x512 : Shape := ⟨2, ![1024, 512]⟩
abbrev S4x2048x12288 : Shape := ⟨3, ![4, 2048, 12288]⟩
abbrev S4x2048x224 : Shape := ⟨3, ![4, 2048, 224]⟩

abbrev nBuf : Space → Nat
  | .hbm => 49
  | .vmem => 26
  | .smem => 0
  | _ => 0

abbrev bufTy : (tb : Table) → Fin (tcTables nBuf tb) → BufTy
  | .hbm, ⟨0, _⟩ => ⟨S4x2048x7168, .bf16⟩
  | .hbm, ⟨1, _⟩ => ⟨S12288x7168, .fp8e4m3⟩
  | .hbm, ⟨2, _⟩ => ⟨S12288x224, .i8⟩
  | .hbm, ⟨3, _⟩ => ⟨S12288, .f32⟩
  | .hbm, ⟨4, _⟩ => ⟨S8192x7168, .bf16⟩
  | .hbm, ⟨5, _⟩ => ⟨S7168x224, .i32⟩
  | .hbm, ⟨6, _⟩ => ⟨S7168x224, .i32⟩
  | .hbm, ⟨7, _⟩ => ⟨S_, .i32⟩
  | .hbm, ⟨8, _⟩ => ⟨S7168x224, .i32⟩
  | .hbm, ⟨9, _⟩ => ⟨S7168x224, .i32⟩
  | .hbm, ⟨10, _⟩ => ⟨S_, .i32⟩
  | .hbm, ⟨11, _⟩ => ⟨S7168x224, .i32⟩
  | .hbm, ⟨12, _⟩ => ⟨S7168x224, .i32⟩
  | .hbm, ⟨13, _⟩ => ⟨S_, .i32⟩
  | .hbm, ⟨14, _⟩ => ⟨S7168x224, .i32⟩
  | .hbm, ⟨15, _⟩ => ⟨S7168x224, .i32⟩
  | .hbm, ⟨16, _⟩ => ⟨S7168x224, .i1⟩
  | .hbm, ⟨17, _⟩ => ⟨S7168x224, .bf16⟩
  | .hbm, ⟨18, _⟩ => ⟨S224x7168, .i32⟩
  | .hbm, ⟨19, _⟩ => ⟨S224x7168, .i32⟩
  | .hbm, ⟨20, _⟩ => ⟨S_, .i32⟩
  | .hbm, ⟨21, _⟩ => ⟨S_, .i32⟩
  | .hbm, ⟨22, _⟩ => ⟨S224x7168, .i32⟩
  | .hbm, ⟨23, _⟩ => ⟨S224x7168, .i32⟩
  | .hbm, ⟨24, _⟩ => ⟨S224x7168, .i32⟩
  | .hbm, ⟨25, _⟩ => ⟨S_, .i32⟩
  | .hbm, ⟨26, _⟩ => ⟨S224x7168, .i32⟩
  | .hbm, ⟨27, _⟩ => ⟨S224x7168, .i1⟩
  | .hbm, ⟨28, _⟩ => ⟨S224x7168, .i32⟩
  | .hbm, ⟨29, _⟩ => ⟨S224x7168, .i32⟩
  | .hbm, ⟨30, _⟩ => ⟨S_, .i32⟩
  | .hbm, ⟨31, _⟩ => ⟨S224x7168, .i32⟩
  | .hbm, ⟨32, _⟩ => ⟨S224x7168, .i1⟩
  | .hbm, ⟨33, _⟩ => ⟨S224x7168, .i1⟩
  | .hbm, ⟨34, _⟩ => ⟨S_, .i32⟩
  | .hbm, ⟨35, _⟩ => ⟨S224x7168, .i32⟩
  | .hbm, ⟨36, _⟩ => ⟨S224x7168, .i32⟩
  | .hbm, ⟨37, _⟩ => ⟨S224x7168, .i32⟩
  | .hbm, ⟨38, _⟩ => ⟨S224x7168, .i1⟩
  | .hbm, ⟨39, _⟩ => ⟨S224x7168, .bf16⟩
  | .hbm, ⟨40, _⟩ => ⟨S8192x7168, .fp8e4m3⟩
  | .hbm, ⟨41, _⟩ => ⟨S8192x224, .i8⟩
  | .hbm, ⟨42, _⟩ => ⟨S8192x7168, .bf16⟩
  | .hbm, ⟨43, _⟩ => ⟨S12288x7168, .bf16⟩
  | .hbm, ⟨44, _⟩ => ⟨S1x12288, .f32⟩
  | .hbm, ⟨45, _⟩ => ⟨S8192x12288, .bf16⟩
  | .hbm, ⟨46, _⟩ => ⟨S4x2048x12288, .bf16⟩
  | .hbm, ⟨47, _⟩ => ⟨S4x2048x7168, .fp8e4m3⟩
  | .hbm, ⟨48, _⟩ => ⟨S4x2048x224, .i8⟩
  | .local _ .vmem, ⟨0, _⟩ => ⟨S128x7168, .bf16⟩
  | .local _ .vmem, ⟨1, _⟩ => ⟨S128x7168, .bf16⟩
  | .local _ .vmem, ⟨2, _⟩ => ⟨S7168x224, .bf16⟩
  | .local _ .vmem, ⟨3, _⟩ => ⟨S224x7168, .bf16⟩
  | .local _ .vmem, ⟨4, _⟩ => ⟨S128x7168, .fp8e4m3⟩
  | .local _ .vmem, ⟨5, _⟩ => ⟨S128x7168, .fp8e4m3⟩
  | .local _ .vmem, ⟨6, _⟩ => ⟨S128x224, .i8⟩
  | .local _ .vmem, ⟨7, _⟩ => ⟨S128x224, .i8⟩
  | .local _ .vmem, ⟨8, _⟩ => ⟨S128x7168, .bf16⟩
  | .local _ .vmem, ⟨9, _⟩ => ⟨S128x7168, .bf16⟩
  | .local _ .vmem, ⟨10, _⟩ => ⟨S128x7168, .bf16⟩
  | .local _ .vmem, ⟨11, _⟩ => ⟨S128x7168, .fp8e4m3⟩
  | .local _ .vmem, ⟨12, _⟩ => ⟨S128x7168, .fp8e4m3⟩
  | .local _ .vmem, ⟨13, _⟩ => ⟨S128x224, .i8⟩
  | .local _ .vmem, ⟨14, _⟩ => ⟨S128x224, .i8⟩
  | .local _ .vmem, ⟨15, _⟩ => ⟨S224x7168, .bf16⟩
  | .local _ .vmem, ⟨16, _⟩ => ⟨S128x7168, .bf16⟩
  | .local _ .vmem, ⟨17, _⟩ => ⟨S128x7168, .bf16⟩
  | .local _ .vmem, ⟨18, _⟩ => ⟨S1024x7168, .bf16⟩
  | .local _ .vmem, ⟨19, _⟩ => ⟨S1024x7168, .bf16⟩
  | .local _ .vmem, ⟨20, _⟩ => ⟨S512x7168, .bf16⟩
  | .local _ .vmem, ⟨21, _⟩ => ⟨S512x7168, .bf16⟩
  | .local _ .vmem, ⟨22, _⟩ => ⟨S1x512, .f32⟩
  | .local _ .vmem, ⟨23, _⟩ => ⟨S1x512, .f32⟩
  | .local _ .vmem, ⟨24, _⟩ => ⟨S1024x512, .bf16⟩
  | .local _ .vmem, ⟨25, _⟩ => ⟨S1024x512, .bf16⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_c : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_0 : Ref sig .tc := ⟨.hbm, 34, rfl⟩
abbrev main_call0_v12 : Ref sig .tc := ⟨.hbm, 35, rfl⟩
abbrev main_call0_v13 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16_0 : Ref sig .tc := ⟨.hbm, 40, rfl⟩
abbrev main_v16_1 : Ref sig .tc := ⟨.hbm, 41, rfl⟩
abbrev main_v16_2 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7168x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x7168 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x224 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![96], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x224 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S224x7168 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x7168 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![8, 24], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x7168 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x7168 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== KernelIdeal.lean ====
variable {F : FTy → Type} [FloatOps F]
-- ==== ReferenceIdeal.lean ====
abbrev S4x2048x7168 : Shape := ⟨3, ![4, 2048, 7168]⟩
abbrev S12288x7168 : Shape := ⟨2, ![12288, 7168]⟩
abbrev S12288x224 : Shape := ⟨2, ![12288, 224]⟩
abbrev S12288 : Shape := ⟨1, ![12288]⟩
abbrev S4x2048x12288 : Shape := ⟨3, ![4, 2048, 12288]⟩
abbrev S4x2048x224 : Shape := ⟨3, ![4, 2048, 224]⟩
abbrev S8192x224x32 : Shape := ⟨3, ![8192, 224, 32]⟩
abbrev S8192x224 : Shape := ⟨2, ![8192, 224]⟩
abbrev S8192x224x254 : Shape := ⟨3, ![8192, 224, 254]⟩
abbrev S8192x224x1 : Shape := ⟨3, ![8192, 224, 1]⟩
abbrev S12288x224x32 : Shape := ⟨3, ![12288, 224, 32]⟩
abbrev S224x8192x12288 : Shape := ⟨3, ![224, 8192, 12288]⟩
abbrev S224x8192 : Shape := ⟨2, ![224, 8192]⟩
abbrev S224x8192x1 : Shape := ⟨3, ![224, 8192, 1]⟩
abbrev S224x12288 : Shape := ⟨2, ![224, 12288]⟩
abbrev S224x1x12288 : Shape := ⟨3, ![224, 1, 12288]⟩
abbrev S8192x12288 : Shape := ⟨2, ![8192, 12288]⟩
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x7168, .bf16⟩
  | .hbm, ⟨1, _⟩ => ⟨S12288x7168, .fp8e4m3⟩
  | .hbm, ⟨2, _⟩ => ⟨S12288x224, .i8⟩
  | .hbm, ⟨3, _⟩ => ⟨S12288, .f32⟩
  | .hbm, ⟨4, _⟩ => ⟨S4x2048x12288, .bf16⟩
  | .hbm, ⟨5, _⟩ => ⟨S4x2048x7168, .fp8e4m3⟩
  | .hbm, ⟨6, _⟩ => ⟨S4x2048x224, .i8⟩
  | .local _ .vmem, ⟨0, _⟩ => ⟨S4x2048x7168, .bf16⟩
  | .local _ .vmem, ⟨1, _⟩ => ⟨S12288x7168, .fp8e4m3⟩
  | .local _ .vmem, ⟨2, _⟩ => ⟨S12288x224, .i8⟩
  | .local _ .vmem, ⟨3, _⟩ => ⟨S12288, .f32⟩
  | .local _ .vmem, ⟨4, _⟩ => ⟨S4x2048x12288, .bf16⟩
  | .local _ .vmem, ⟨5, _⟩ => ⟨S4x2048x7168, .fp8e4m3⟩
  | .local _ .vmem, ⟨6, _⟩ => ⟨S4x2048x224, .i8⟩
  | _, _ => ⟨S4x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x2048x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x224 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2048x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x2048x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x2048x224 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRun.lean ====
/-
The run of the kernel program with its three results named. The frame's launch is repeated with a stronger conclusion: each
result array ends at what the last boundary of @main's segments (`W8`) holds there.
-/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its results named: every weakly fair execution of the kernel program terminates, and every final state has the
    three result arrays at what the last boundary holds there, with the arguments as launched. The launch is the frame's. -/
theorem run : θ_run defs (onTc (τ := τ) (main (F := F))) ⟨m, fun _ => 0, ρ⟩ (fun r => ∀ c : Dev nD,
      r.2.mem ((c.tc : Thread nD τ).loc main_v20) = W8 m ρ c main_v20
      ∧ r.2.mem ((c.tc : Thread nD τ).loc main_v21) = W8 m ρ c main_v21
      ∧ r.2.mem ((c.tc : Thread nD τ).loc main_v22) = W8 m ρ c main_v22
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => fun c =>
      ⟨h c _ (mem_uc main_v20 (by decide)), h c _ (mem_uc main_v21 (by decide)), h c _ (mem_uc main_v22 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c)⟩)

end Cert.KernelRun

end
-- ==== Proof.QuantBlock.lean ====
module
public import proofs.«01_k».proof.Proof.Gen.KernelIdeal.Frame
public import Idealize.ShloMosaic.Lib.Pipeline.Value
public import Idealize.ShloMosaic.Lib.Pipeline.ValueKit
@[expose] public section
set_option maxRecDepth 16384
/-!
# What one grid step of the quantizer leaves in its three output blocks

The 56 tiles the step writes to its scratch buffer are the tiles of one array `groupMax`, so every later read of the
scratch buffer reads that array, and the three outputs are the printed expressions of it.
-/
noncomputable section
namespace Cert.QuantBlock
open Cert.KernelIdeal Cert.KernelIdeal.Gen Idealize.ShloMosaic Idealize.ShloMosaic.TcCoe Idealize.SL.Sem
variable {F : FTy → Type} [FloatOps F]

/-- The 128 columns of `x` from column `128·b`. -/
def tileOf (x : Vec F S128x7168 .bf16) (b : ℕ) : Vec F S128x128 .bf16 :=
  fun y => x (fun a => match a with
    | 0 => ⟨(y 0).val, (y 0).isLt⟩
    | 1 => ⟨(128 * b + (y 1).val) % 7168, Nat.mod_lt _ (by decide)⟩)

/-- The array the scratch buffer holds: each tile of 128 columns is the tile computation of the same columns of `x`. -/
def groupMax (x : Vec F S128x7168 .bf16) : Vec F S128x7168 .bf16 :=
  fun y => k0_pay3 (tileOf x ((y 1).val / 128)) (fun a => match a with
    | 0 => ⟨(y 0).val, (y 0).isLt⟩
    | 1 => ⟨(y 1).val % 128, Nat.mod_lt _ (by decide)⟩)

/-- One stored tile is the tile of `groupMax` its rectangle names. -/
theorem tile_piece (arg1 : Memref sig .tc .vmem S128x7168 .bf16) (harg1 : arg1.IsWhole) (x : Vec F S128x7168 .bf16) (o b : ℕ)
    (ho : o = 128 * b) (hb : b < 56) (inb : ∀ a, (![0, o] : Fin 2 → ℕ) a + S128x128.size a ≤ S128x7168.size a)
    (y : (Rect.unit (s := S128x7168) ![0, o] S128x128.size inb).shape.Idx) :
    k0_pay3 (View.readAt (Elt F) arg1.view (Rect.unit (s := S128x7168) ![0, o] S128x128.size inb).toLoadRect (harg1.unread x)) y
      = groupMax x ((Rect.unit (s := S128x7168) ![0, o] S128x128.size inb).emb y) := by
  have hy1 : (y 1).val < 128 := (y 1).isLt
  have e1 : ((Rect.unit (s := S128x7168) ![0, o] S128x128.size inb).emb y 1).val = o + (y 1).val :=
    Rect.idx_unit_val _ _ inb y 1
  have e0 : ((Rect.unit (s := S128x7168) ![0, o] S128x128.size inb).emb y 0).val = (y 0).val :=
    (Rect.idx_unit_val _ _ inb y 0).trans (Nat.zero_add _)
  unfold groupMax
  have hd : ((Rect.unit (s := S128x7168) ![0, o] S128x128.size inb).emb y 1).val / 128 = b := by rw [e1]; omega
  rw [hd]
  congr 1
  · rw [View.readAt_eq_ld, harg1.read_unread x]
    funext z
    have hz1 : (z 1).val < 128 := (z 1).isLt
    refine View.ld_unit_apply_of x _ _ inb z _ fun a => ?_
    match a with
    | 0 => exact (Nat.zero_add _).symm
    | 1 =>
      show (128 * b + (z 1).val) % 7168 = o + (z 1).val
      omega
  · funext a
    match a with
    | 0 => exact Fin.ext e0.symm
    | 1 =>
      refine Fin.ext ?_
      show (y 1).val = _ % 128
      rw [e1]; omega

/-- A read of the whole scratch buffer, its tiles all stored, reads `groupMax`. -/
theorem scratch (v : View sig .tc .vmem S128x7168 .bf16) (x : Vec F S128x7168 .bf16) (L : List (View.Piece (Elt F) S128x7168 .bf16))
    (inb : ∀ a, (![0, 0] : Fin 2 → ℕ) a + S128x7168.size a ≤ S128x7168.size a)
    (h : ∀ p ∈ L, ∀ y, p.2 y = groupMax x (p.1.emb y)) (hc : ∀ y, ∃ p ∈ L, y ∈ p.1.set) :
    View.readCov v L (Rect.unit (s := S128x7168) ![0, 0] S128x7168.size inb).toLoadRect = groupMax x := by
  rw [View.readCov_eq_canon']
  funext j
  have e : (Rect.unit (s := S128x7168) ![0, 0] S128x7168.size inb).toLoadRect.idx j = j := by
    funext a
    refine Fin.ext ?_
    match a with
    | 0 => exact (Rect.idx_unit_val _ _ inb j 0).trans (Nat.zero_add _)
    | 1 => exact (Rect.idx_unit_val _ _ inb j 1).trans (Nat.zero_add _)
  rw [e]
  exact View.canon_apply_of_pieces (groupMax x) L h j (hc j)

theorem zeros : (![0, 0] : Fin 2 → ℕ) = fun _ => 0 := by funext a; match a with | 0 => rfl | 1 => rfl

/-- The exponents of the block's groups. -/
def qExp (x0 : Vec F S128x7168 .bf16) (x1 : Vec F S7168x224 .bf16) : IVec S128x224 32 :=
  k0_pay147 (k0_pay143 (groupMax x0) x1) (k0_pay144 (groupMax x0) x1) (k0_pay145 (groupMax x0) x1) (k0_pay146 (groupMax x0) x1) 23#32
/-- The inverse scales of the block's groups. -/
def qInv (x0 : Vec F S128x7168 .bf16) (x1 : Vec F S7168x224 .bf16) : FVec F S128x224 .bf16 :=
  k0_pay150 (k0_pay149 (k0_pay143 (groupMax x0) x1) (k0_pay144 (groupMax x0) x1) (k0_pay145 (groupMax x0) x1) (k0_pay146 (groupMax x0) x1) 23#32) 23#32
/-- The scales of the block's groups. -/
def qFwd (x0 : Vec F S128x7168 .bf16) (x1 : Vec F S7168x224 .bf16) : FVec F S128x224 .bf16 := k0_pay151 (qExp x0 x1)
/-- The codes of one block. -/
def qCodes (x0 : Vec F S128x7168 .bf16) (x1 : Vec F S7168x224 .bf16) (x2 : Vec F S224x7168 .bf16) : Vec F S128x7168 .fp8e4m3 :=
  k0_pay1 (qInv x0 x1) x2 x0
/-- The scale bytes of one block. -/
def qBytes (x0 : Vec F S128x7168 .bf16) (x1 : Vec F S7168x224 .bf16) : Vec F S128x224 .i8 :=
  k0_pay148 (k0_pay143 (groupMax x0) x1) (k0_pay144 (groupMax x0) x1) (k0_pay145 (groupMax x0) x1) (k0_pay146 (groupMax x0) x1) 23#32
/-- The codes of one block times their scales. -/
def qDeq (x0 : Vec F S128x7168 .bf16) (x1 : Vec F S7168x224 .bf16) (x2 : Vec F S224x7168 .bf16) : Vec F S128x7168 .bf16 :=
  k0_pay2 (qInv x0 x1) (qFwd x0 x1) x2 x2 x0

theorem out3_eq (c : Dev nD) (i : grid0.Coords) (arg1 : Memref sig .tc .vmem S128x7168 .bf16) (harg1 : arg1.IsWhole) (arg2 : Memref sig .tc .vmem S7168x224 .bf16) (harg2 : arg2.IsWhole) (arg3 : Memref sig .tc .vmem S224x7168 .bf16) (harg3 : arg3.IsWhole) (arg4 : Memref sig .tc .vmem S128x7168 .fp8e4m3) (harg4 : arg4.IsWhole) (arg5 : Memref sig .tc .vmem S128x224 .i8) (harg5 : arg5.IsWhole) (arg6 : Memref sig .tc .vmem S128x7168 .bf16) (harg6 : arg6.IsWhole) (arg7 : Memref sig .tc .vmem S128x7168 .bf16) (harg7 : arg7.IsWhole)
    (x0 : Vec F S128x7168 .bf16) (x1 : Vec F S7168x224 .bf16) (x2 : Vec F S224x7168 .bf16) :
    out0_A_3 c i arg1 harg1 arg2 harg2 arg3 harg3 arg4 harg4 arg5 harg5 arg6 harg6 arg7 harg7 x0 x1 x2 = qCodes x0 x1 x2 := by
  unfold out0_A_3
  rw [View.read_writes_junk_eq_canon]
  unfold kernelRun0_A
  dsimp only
  sl_unfold_words
  rw [View.canon_unit_zero zeros]
  rw [scratch arg7.view x0]
  · simp only [View.readAt_eq_ld, harg1.read_unread, harg2.read_unread, harg3.read_unread]
    simp only [View.ld_unit_zero (S := S128x7168) zeros, View.ld_unit_zero (S := S7168x224) zeros, View.ld_unit_zero (S := S224x7168) zeros]
    rfl
  · refine List.forall_mem_cons.mpr ⟨fun y => tile_piece arg1 harg1 x0 7040 55 rfl (by decide) inb_S128x7168_S128x128_0_7040 y, ?_⟩
    refine List.forall_mem_cons.mpr ⟨fun y => tile_piece arg1 harg1 x0 6912 54 rfl (by decide) inb_S128x7168_S128x128_0_6912 y, ?_⟩
    refine List.forall_mem_cons.mpr ⟨fun y => tile_piece arg1 harg1 x0 6784 53 rfl (by decide) inb_S128x7168_S128x128_0_6784 y, ?_⟩
    refine List.forall_mem_cons.mpr ⟨fun y => tile_piece arg1 harg1 x0 6656 52 rfl (by decide) inb_S128x7168_S128x128_0_6656 y, ?_⟩
    refine List.forall_mem_cons.mpr ⟨fun y => tile_piece arg1 harg1 x0 6528 51 rfl (by decide) inb_S128x7168_S128x128_0_6528 y, ?_⟩
    refine List.forall_mem_cons.mpr ⟨fun y => tile_piece arg1 harg1 x0 6400 50 rfl (by decide) inb_S128x7168_S128x128_0_6400 y, ?_⟩
    refine List.forall_mem_cons.mpr ⟨fun y => tile_piece arg1 harg1 x0 6272 49 rfl (by decide) inb_S128x7168_S128x128_0_6272 y, ?_⟩
    refine List.forall_mem_cons.mpr ⟨fun y => tile_piece arg1 harg1 x0 6144 48 rfl (by decide) inb_S128x7168_S128x128_0_6144 y, ?_⟩
    refine List.forall_mem_cons.mpr ⟨fun y => tile_piece arg1 harg1 x0 6016 47 rfl (by decide) inb_S128x7168_S128x128_0_6016 y, ?_⟩
    refine List.forall_mem_cons.mpr ⟨fun y => tile_piece arg1 harg1 x0 5888 46 rfl (by decide) inb_S128x7168_S128x128_0_5888 y, ?_⟩
    refine List.forall_mem_cons.mpr ⟨fun y => tile_piece arg1 harg1 x0 5760 45 rfl (by decide) inb_S128x7168_S128x128_0_5760 y, ?_⟩
    refine List.forall_mem_cons.mpr ⟨fun y => tile_piece arg1 harg1 x0 5632 44 rfl (by decide) inb_S128x7168_S128x128_0_5632 y, ?_⟩
    refine List.forall_mem_cons.mpr ⟨fun y => tile_piece arg1 harg1 x0 5504 43 rfl (by decide) inb_S128x7168_S128x128_0_5504 y, ?_⟩
    refine List.forall_mem_cons.mpr ⟨fun y => tile_piece arg1 harg1 x0 5376 42 rfl (by decide) inb_S128x7168_S128x128_0_5376 y, ?_⟩
    refine List.forall_mem_cons.mpr ⟨fun y => tile_piece arg1 harg1 x0 5248 41 rfl (by decide) inb_S128x7168_S128x128_0_5248 y, ?_⟩
    refine List.forall_mem_cons.mpr ⟨fun y => tile_piece arg1 harg1 x0 5120 40 rfl (by decide) inb_S128x7168_S128x128_0_5120 y, ?_⟩
    refine List.forall_mem_cons.mpr ⟨fun y => tile_piece arg1 harg1 x0 4992 39 rfl (by decide) inb_S128x7168_S128x128_0_4992 y, ?_⟩
    refine List.forall_mem_cons.mpr ⟨fun y => tile_piece arg1 harg1 x0 4864 38 rfl (by decide) inb_S128x7168_S128x128_0_4864 y, ?_⟩
    refine List.forall_mem_cons.mpr ⟨fun y => tile_piece arg1 harg1 x0 4736 37 rfl (by decide) inb_S128x7168_S128x128_0_4736 y, ?_⟩
    refine List.forall_mem_cons.mpr ⟨fun y => tile_piece arg1 harg1 x0 4608 36 rfl (by decide) inb_S128x7168_S128x128_0_4608 y, ?_⟩
    refine List.forall_mem_cons.mpr ⟨fun y => tile_piece arg1 harg1 x0 4480 35 rfl (by decide) inb_S128x7168_S128x128_0_4480 y, ?_⟩
    refine List.forall_mem_cons.mpr ⟨fun y => tile_piece arg1 harg1 x0 4352 34 rfl (by decide) inb_S128x7168_S128x128_0_4352 y, ?_⟩
    refine List.forall_mem_cons.mpr ⟨fun y => tile_piece arg1 harg1 x0 4224 33 rfl (by decide) inb_S128x7168_S128x128_0_4224 y, ?_⟩
    refine List.forall_mem_cons.mpr ⟨fun y => tile_piece arg1 harg1 x0 4096 32 rfl (by decide) inb_S128x7168_S128x128_0_4096 y, ?_⟩
    refine List.forall_mem_cons.mpr ⟨fun y => tile_piece arg1 harg1 x0 3968 31 rfl (by decide) inb_S128x7168_S128x128_0_3968 y, ?_⟩
    refine List.forall_mem_cons.mpr ⟨fun y => tile_piece arg1 harg1 x0 3840 30 rfl (by decide) inb_S128x7168_S128x128_0_3840 y, ?_⟩
    refine List.forall_mem_cons.mpr ⟨fun y => tile_piece arg1 harg1 x0 3712 29 rfl (by decide) inb_S128x7168_S128x128_0_3712 y, ?_⟩
    refine List.forall_mem_cons.mpr ⟨fun y => tile_piece arg1 harg1 x0 3584 28 rfl (by decide) inb_S128x7168_S128x128_0_3584 y, ?_⟩
    refine List.forall_mem_cons.mpr ⟨fun y => tile_piece arg1 harg1 x0 3456 27 rfl (by decide) inb_S128x7168_S128x128_0_3456 y, ?_⟩
    refine List.forall_mem_cons.mpr ⟨fun y => tile_piece arg1 harg1 x0 3328 26 rfl (by decide) inb_S128x7168_S128x128_0_3328 y, ?_⟩
    refine List.forall_mem_cons.mpr ⟨fun y => tile_piece arg1 harg1 x0 3200 25 rfl (by decide) inb_S128x7168_S128x128_0_3200 y, ?_⟩
    refine List.forall_mem_cons.mpr ⟨fun y => tile_piece arg1 harg1 x0 3072 24 rfl (by decide) inb_S128x7168_S128x128_0_3072 y, ?_⟩
    refine List.forall_mem_cons.mpr ⟨fun y => tile_piece arg1 harg1 x0 2944 23 rfl (by decide) inb_S128x7168_S128x128_0_2944 y, ?_⟩
    refine List.forall_mem_cons.mpr ⟨fun y => tile_piece arg1 harg1 x0 2816 22 rfl (by decide) inb_S128x7168_S128x128_0_2816 y, ?_⟩
    refine List.forall_mem_cons.mpr ⟨fun y => tile_piece arg1 harg1 x0 2688 21 rfl (by decide) inb_S128x7168_S128x128_0_2688 y, ?_⟩
    refine List.forall_mem_cons.mpr ⟨fun y => tile_piece arg1 harg1 x0 2560 20 rfl (by decide) inb_S128x7168_S128x128_0_2560 y, ?_⟩
    refine List.forall_mem_cons.mpr ⟨fun y => tile_piece arg1 harg1 x0 2432 19 rfl (by decide) inb_S128x7168_S128x128_0_2432 y, ?_⟩
    refine List.forall_mem_cons.mpr ⟨fun y => tile_piece arg1 harg1 x0 2304 18 rfl (by decide) inb_S128x7168_S128x128_0_2304 y, ?_⟩
    refine List.forall_mem_cons.mpr ⟨fun y => tile_piece arg1 harg1 x0 2176 17 rfl (by decide) inb_S128x7168_S128x128_0_2176 y, ?_⟩
    refine List.forall_mem_cons.mpr ⟨fun y => tile_piece arg1 harg1 x0 2048 16 rfl (by decide) inb_S128x7168_S128x128_0_2048 y, ?_⟩
    refine List.forall_mem_cons.mpr ⟨fun y => tile_piece arg1 harg1 x0 1920 15 rfl (by decide) inb_S128x7168_S128x128_0_1920 y, ?_⟩
    refine List.forall_mem_cons.mpr ⟨fun y => tile_piece arg1 harg1 x0 1792 14 rfl (by decide) inb_S128x7168_S128x128_0_1792 y, ?_⟩
    refine List.forall_mem_cons.mpr ⟨fun y => tile_piece arg1 harg1 x0 1664 13 rfl (by decide) inb_S128x7168_S128x128_0_1664 y, ?_⟩
    refine List.forall_mem_cons.mpr ⟨fun y => tile_piece arg1 harg1 x0 1536 12 rfl (by decide) inb_S128x7168_S128x128_0_1536 y, ?_⟩
    refine List.forall_mem_cons.mpr ⟨fun y => tile_piece arg1 harg1 x0 1408 11 rfl (by decide) inb_S128x7168_S128x128_0_1408 y, ?_⟩
    refine List.forall_mem_cons.mpr ⟨fun y => tile_piece arg1 harg1 x0 1280 10 rfl (by decide) inb_S128x7168_S128x128_0_1280 y, ?_⟩
    refine List.forall_mem_cons.mpr ⟨fun y => tile_piece arg1 harg1 x0 1152 9 rfl (by decide) inb_S128x7168_S128x128_0_1152 y, ?_⟩
    refine List.forall_mem_cons.mpr ⟨fun y => tile_piece arg1 harg1 x0 1024 8 rfl (by decide) inb_S128x7168_S128x128_0_1024 y, ?_⟩
    refine List.forall_mem_cons.mpr ⟨fun y => tile_piece arg1 harg1 x0 896 7 rfl (by decide) inb_S128x7168_S128x128_0_896 y, ?_⟩
    refine List.forall_mem_cons.mpr ⟨fun y => tile_piece arg1 harg1 x0 768 6 rfl (by decide) inb_S128x7168_S128x128_0_768 y, ?_⟩
    refine List.forall_mem_cons.mpr ⟨fun y => tile_piece arg1 harg1 x0 640 5 rfl (by decide) inb_S128x7168_S128x128_0_640 y, ?_⟩
    refine List.forall_mem_cons.mpr ⟨fun y => tile_piece arg1 harg1 x0 512 4 rfl (by decide) inb_S128x7168_S128x128_0_512 y, ?_⟩
    refine List.forall_mem_cons.mpr ⟨fun y => tile_piece arg1 harg1 x0 384 3 rfl (by decide) inb_S128x7168_S128x128_0_384 y, ?_⟩
    refine List.forall_mem_cons.mpr ⟨fun y => tile_piece arg1 harg1 x0 256 2 rfl (by decide) inb_S128x7168_S128x128_0_256 y, ?_⟩
    refine List.forall_mem_cons.mpr ⟨fun y => tile_piece arg1 harg1 x0 128 1 rfl (by decide) inb_S128x7168_S128x128_0_128 y, ?_⟩
    refine List.forall_mem_cons.mpr ⟨fun y => tile_piece arg1 harg1 x0 0 0 rfl (by decide) inb_S128x7168_S128x128_0_0 y, ?_⟩
    exact fun p hp => absurd hp List.not_mem_nil
  · exact fun y => View.cover_of_tiledL (s := S128x7168) _ ![128, 128] (by sl_kernel_rfl) y

theorem out4_eq (c : Dev nD) (i : grid0.Coords) (arg1 : Memref sig .tc .vmem S128x7168 .bf16) (harg1 : arg1.IsWhole) (arg2 : Memref sig .tc .vmem S7168x224 .bf16) (harg2 : arg2.IsWhole) (arg3 : Memref sig .tc .vmem S224x7168 .bf16) (harg3 : arg3.IsWhole) (arg4 : Memref sig .tc .vmem S128x7168 .fp8e4m3) (harg4 : arg4.IsWhole) (arg5 : Memref sig .tc .vmem S128x224 .i8) (harg5 : arg5.IsWhole) (arg6 : Memref sig .tc .vmem S128x7168 .bf16) (harg6 : arg6.IsWhole) (arg7 : Memref sig .tc .vmem S128x7168 .bf16) (harg7 : arg7.IsWhole)
    (x0 : Vec F S128x7168 .bf16) (x1 : Vec F S7168x224 .bf16) (x2 : Vec F S224x7168 .bf16) :
    out0_A_4 c i arg1 harg1 arg2 harg2 arg3 harg3 arg4 harg4 arg5 harg5 arg6 harg6 arg7 harg7 x0 x1 x2 = qBytes x0 x1 := by
  unfold out0_A_4
  rw [View.read_writes_junk_eq_canon]
  unfold kernelRun0_A
  dsimp only
  sl_unfold_words
  rw [View.canon_unit_zero zeros]
  rw [scratch arg7.view x0]
  · simp only [View.readAt_eq_ld, harg1.read_unread, harg2.read_unread, harg3.read_unread]
    simp only [View.ld_unit_zero (S := S128x7168) zeros, View.ld_unit_zero (S := S7168x224) zeros, View.ld_unit_zero (S := S224x7168) zeros]
    rfl
  · refine List.forall_mem_cons.mpr ⟨fun y => tile_piece arg1 harg1 x0 7040 55 rfl (by decide) inb_S128x7168_S128x128_0_7040 y, ?_⟩
    refine List.forall_mem_cons.mpr ⟨fun y => tile_piece arg1 harg1 x0 6912 54 rfl (by decide) inb_S128x7168_S128x128_0_6912 y, ?_⟩
    refine List.forall_mem_cons.mpr ⟨fun y => tile_piece arg1 harg1 x0 6784 53 rfl (by decide) inb_S128x7168_S128x128_0_6784 y, ?_⟩
    refine List.forall_mem_cons.mpr ⟨fun y => tile_piece arg1 harg1 x0 6656 52 rfl (by decide) inb_S128x7168_S128x128_0_6656 y, ?_⟩
    refine List.forall_mem_cons.mpr ⟨fun y => tile_piece arg1 harg1 x0 6528 51 rfl (by decide) inb_S128x7168_S128x128_0_6528 y, ?_⟩
    refine List.forall_mem_cons.mpr ⟨fun y => tile_piece arg1 harg1 x0 6400 50 rfl (by decide) inb_S128x7168_S128x128_0_6400 y, ?_⟩
    refine List.forall_mem_cons.mpr ⟨fun y => tile_piece arg1 harg1 x0 6272 49 rfl (by decide) inb_S128x7168_S128x128_0_6272 y, ?_⟩
    refine List.forall_mem_cons.mpr ⟨fun y => tile_piece arg1 harg1 x0 6144 48 rfl (by decide) inb_S128x7168_S128x128_0_6144 y, ?_⟩
    refine List.forall_mem_cons.mpr ⟨fun y => tile_piece arg1 harg1 x0 6016 47 rfl (by decide) inb_S128x7168_S128x128_0_6016 y, ?_⟩
    refine List.forall_mem_cons.mpr ⟨fun y => tile_piece arg1 harg1 x0 5888 46 rfl (by decide) inb_S128x7168_S128x128_0_5888 y, ?_⟩
    refine List.forall_mem_cons.mpr ⟨fun y => tile_piece arg1 harg1 x0 5760 45 rfl (by decide) inb_S128x7168_S128x128_0_5760 y, ?_⟩
    refine List.forall_mem_cons.mpr ⟨fun y => tile_piece arg1 harg1 x0 5632 44 rfl (by decide) inb_S128x7168_S128x128_0_5632 y, ?_⟩
    refine List.forall_mem_cons.mpr ⟨fun y => tile_piece arg1 harg1 x0 5504 43 rfl (by decide) inb_S128x7168_S128x128_0_5504 y, ?_⟩
    refine List.forall_mem_cons.mpr ⟨fun y => tile_piece arg1 harg1 x0 5376 42 rfl (by decide) inb_S128x7168_S128x128_0_5376 y, ?_⟩
    refine List.forall_mem_cons.mpr ⟨fun y => tile_piece arg1 harg1 x0 5248 41 rfl (by decide) inb_S128x7168_S128x128_0_5248 y, ?_⟩
    refine List.forall_mem_cons.mpr ⟨fun y => tile_piece arg1 harg1 x0 5120 40 rfl (by decide) inb_S128x7168_S128x128_0_5120 y, ?_⟩
    refine List.forall_mem_cons.mpr ⟨fun y => tile_piece arg1 harg1 x0 4992 39 rfl (by decide) inb_S128x7168_S128x128_0_4992 y, ?_⟩
    refine List.forall_mem_cons.mpr ⟨fun y => tile_piece arg1 harg1 x0 4864 38 rfl (by decide) inb_S128x7168_S128x128_0_4864 y, ?_⟩
    refine List.forall_mem_cons.mpr ⟨fun y => tile_piece arg1 harg1 x0 4736 37 rfl (by decide) inb_S128x7168_S128x128_0_4736 y, ?_⟩
    refine List.forall_mem_cons.mpr ⟨fun y => tile_piece arg1 harg1 x0 4608 36 rfl (by decide) inb_S128x7168_S128x128_0_4608 y, ?_⟩
    refine List.forall_mem_cons.mpr ⟨fun y => tile_piece arg1 harg1 x0 4480 35 rfl (by decide) inb_S128x7168_S128x128_0_4480 y, ?_⟩
    refine List.forall_mem_cons.mpr ⟨fun y => tile_piece arg1 harg1 x0 4352 34 rfl (by decide) inb_S128x7168_S128x128_0_4352 y, ?_⟩
    refine List.forall_mem_cons.mpr ⟨fun y => tile_piece arg1 harg1 x0 4224 33 rfl (by decide) inb_S128x7168_S128x128_0_4224 y, ?_⟩
    refine List.forall_mem_cons.mpr ⟨fun y => tile_piece arg1 harg1 x0 4096 32 rfl (by decide) inb_S128x7168_S128x128_0_4096 y, ?_⟩
    refine List.forall_mem_cons.mpr ⟨fun y => tile_piece arg1 harg1 x0 3968 31 rfl (by decide) inb_S128x7168_S128x128_0_3968 y, ?_⟩
    refine List.forall_mem_cons.mpr ⟨fun y => tile_piece arg1 harg1 x0 3840 30 rfl (by decide) inb_S128x7168_S128x128_0_3840 y, ?_⟩
    refine List.forall_mem_cons.mpr ⟨fun y => tile_piece arg1 harg1 x0 3712 29 rfl (by decide) inb_S128x7168_S128x128_0_3712 y, ?_⟩
    refine List.forall_mem_cons.mpr ⟨fun y => tile_piece arg1 harg1 x0 3584 28 rfl (by decide) inb_S128x7168_S128x128_0_3584 y, ?_⟩
    refine List.forall_mem_cons.mpr ⟨fun y => tile_piece arg1 harg1 x0 3456 27 rfl (by decide) inb_S128x7168_S128x128_0_3456 y, ?_⟩
    refine List.forall_mem_cons.mpr ⟨fun y => tile_piece arg1 harg1 x0 3328 26 rfl (by decide) inb_S128x7168_S128x128_0_3328 y, ?_⟩
    refine List.forall_mem_cons.mpr ⟨fun y => tile_piece arg1 harg1 x0 3200 25 rfl (by decide) inb_S128x7168_S128x128_0_3200 y, ?_⟩
    refine List.forall_mem_cons.mpr ⟨fun y => tile_piece arg1 harg1 x0 3072 24 rfl (by decide) inb_S128x7168_S128x128_0_3072 y, ?_⟩
    refine List.forall_mem_cons.mpr ⟨fun y => tile_piece arg1 harg1 x0 2944 23 rfl (by decide) inb_S128x7168_S128x128_0_2944 y, ?_⟩
    refine List.forall_mem_cons.mpr ⟨fun y => tile_piece arg1 harg1 x0 2816 22 rfl (by decide) inb_S128x7168_S128x128_0_2816 y, ?_⟩
    refine List.forall_mem_cons.mpr ⟨fun y => tile_piece arg1 harg1 x0 2688 21 rfl (by decide) inb_S128x7168_S128x128_0_2688 y, ?_⟩
    refine List.forall_mem_cons.mpr ⟨fun y => tile_piece arg1 harg1 x0 2560 20 rfl (by decide) inb_S128x7168_S128x128_0_2560 y, ?_⟩
    refine List.forall_mem_cons.mpr ⟨fun y => tile_piece arg1 harg1 x0 2432 19 rfl (by decide) inb_S128x7168_S128x128_0_2432 y, ?_⟩
    refine List.forall_mem_cons.mpr ⟨fun y => tile_piece arg1 harg1 x0 2304 18 rfl (by decide) inb_S128x7168_S128x128_0_2304 y, ?_⟩
    refine List.forall_mem_cons.mpr ⟨fun y => tile_piece arg1 harg1 x0 2176 17 rfl (by decide) inb_S128x7168_S128x128_0_2176 y, ?_⟩
    refine List.forall_mem_cons.mpr ⟨fun y => tile_piece arg1 harg1 x0 2048 16 rfl (by decide) inb_S128x7168_S128x128_0_2048 y, ?_⟩
    refine List.forall_mem_cons.mpr ⟨fun y => tile_piece arg1 harg1 x0 1920 15 rfl (by decide) inb_S128x7168_S128x128_0_1920 y, ?_⟩
    refine List.forall_mem_cons.mpr ⟨fun y => tile_piece arg1 harg1 x0 1792 14 rfl (by decide) inb_S128x7168_S128x128_0_1792 y, ?_⟩
    refine List.forall_mem_cons.mpr ⟨fun y => tile_piece arg1 harg1 x0 1664 13 rfl (by decide) inb_S128x7168_S128x128_0_1664 y, ?_⟩
    refine List.forall_mem_cons.mpr ⟨fun y => tile_piece arg1 harg1 x0 1536 12 rfl (by decide) inb_S128x7168_S128x128_0_1536 y, ?_⟩
    refine List.forall_mem_cons.mpr ⟨fun y => tile_piece arg1 harg1 x0 1408 11 rfl (by decide) inb_S128x7168_S128x128_0_1408 y, ?_⟩
    refine List.forall_mem_cons.mpr ⟨fun y => tile_piece arg1 harg1 x0 1280 10 rfl (by decide) inb_S128x7168_S128x128_0_1280 y, ?_⟩
    refine List.forall_mem_cons.mpr ⟨fun y => tile_piece arg1 harg1 x0 1152 9 rfl (by decide) inb_S128x7168_S128x128_0_1152 y, ?_⟩
    refine List.forall_mem_cons.mpr ⟨fun y => tile_piece arg1 harg1 x0 1024 8 rfl (by decide) inb_S128x7168_S128x128_0_1024 y, ?_⟩
    refine List.forall_mem_cons.mpr ⟨fun y => tile_piece arg1 harg1 x0 896 7 rfl (by decide) inb_S128x7168_S128x128_0_896 y, ?_⟩
    refine List.forall_mem_cons.mpr ⟨fun y => tile_piece arg1 harg1 x0 768 6 rfl (by decide) inb_S128x7168_S128x128_0_768 y, ?_⟩
    refine List.forall_mem_cons.mpr ⟨fun y => tile_piece arg1 harg1 x0 640 5 rfl (by decide) inb_S128x7168_S128x128_0_640 y, ?_⟩
    refine List.forall_mem_cons.mpr ⟨fun y => tile_piece arg1 harg1 x0 512 4 rfl (by decide) inb_S128x7168_S128x128_0_512 y, ?_⟩
    refine List.forall_mem_cons.mpr ⟨fun y => tile_piece arg1 harg1 x0 384 3 rfl (by decide) inb_S128x7168_S128x128_0_384 y, ?_⟩
    refine List.forall_mem_cons.mpr ⟨fun y => tile_piece arg1 harg1 x0 256 2 rfl (by decide) inb_S128x7168_S128x128_0_256 y, ?_⟩
    refine List.forall_mem_cons.mpr ⟨fun y => tile_piece arg1 harg1 x0 128 1 rfl (by decide) inb_S128x7168_S128x128_0_128 y, ?_⟩
    refine List.forall_mem_cons.mpr ⟨fun y => tile_piece arg1 harg1 x0 0 0 rfl (by decide) inb_S128x7168_S128x128_0_0 y, ?_⟩
    exact fun p hp => absurd hp List.not_mem_nil
  · exact fun y => View.cover_of_tiledL (s := S128x7168) _ ![128, 128] (by sl_kernel_rfl) y

theorem out5_eq (c : Dev nD) (i : grid0.Coords) (arg1 : Memref sig .tc .vmem S128x7168 .bf16) (harg1 : arg1.IsWhole) (arg2 : Memref sig .tc .vmem S7168x224 .bf16) (harg2 : arg2.IsWhole) (arg3 : Memref sig .tc .vmem S224x7168 .bf16) (harg3 : arg3.IsWhole) (arg4 : Memref sig .tc .vmem S128x7168 .fp8e4m3) (harg4 : arg4.IsWhole) (arg5 : Memref sig .tc .vmem S128x224 .i8) (harg5 : arg5.IsWhole) (arg6 : Memref sig .tc .vmem S128x7168 .bf16) (harg6 : arg6.IsWhole) (arg7 : Memref sig .tc .vmem S128x7168 .bf16) (harg7 : arg7.IsWhole)
    (x0 : Vec F S128x7168 .bf16) (x1 : Vec F S7168x224 .bf16) (x2 : Vec F S224x7168 .bf16) :
    out0_A_5 c i arg1 harg1 arg2 harg2 arg3 harg3 arg4 harg4 arg5 harg5 arg6 harg6 arg7 harg7 x0 x1 x2 = qDeq x0 x1 x2 := by
  unfold out0_A_5
  rw [View.read_writes_junk_eq_canon]
  unfold kernelRun0_A
  dsimp only
  sl_unfold_words
  rw [View.canon_unit_zero zeros]
  rw [scratch arg7.view x0]
  · simp only [View.readAt_eq_ld, harg1.read_unread, harg2.read_unread, harg3.read_unread]
    simp only [View.ld_unit_zero (S := S128x7168) zeros, View.ld_unit_zero (S := S7168x224) zeros, View.ld_unit_zero (S := S224x7168) zeros]
    rfl
  · refine List.forall_mem_cons.mpr ⟨fun y => tile_piece arg1 harg1 x0 7040 55 rfl (by decide) inb_S128x7168_S128x128_0_7040 y, ?_⟩
    refine List.forall_mem_cons.mpr ⟨fun y => tile_piece arg1 harg1 x0 6912 54 rfl (by decide) inb_S128x7168_S128x128_0_6912 y, ?_⟩
    refine List.forall_mem_cons.mpr ⟨fun y => tile_piece arg1 harg1 x0 6784 53 rfl (by decide) inb_S128x7168_S128x128_0_6784 y, ?_⟩
    refine List.forall_mem_cons.mpr ⟨fun y => tile_piece arg1 harg1 x0 6656 52 rfl (by decide) inb_S128x7168_S128x128_0_6656 y, ?_⟩
    refine List.forall_mem_cons.mpr ⟨fun y => tile_piece arg1 harg1 x0 6528 51 rfl (by decide) inb_S128x7168_S128x128_0_6528 y, ?_⟩
    refine List.forall_mem_cons.mpr ⟨fun y => tile_piece arg1 harg1 x0 6400 50 rfl (by decide) inb_S128x7168_S128x128_0_6400 y, ?_⟩
    refine List.forall_mem_cons.mpr ⟨fun y => tile_piece arg1 harg1 x0 6272 49 rfl (by decide) inb_S128x7168_S128x128_0_6272 y, ?_⟩
    refine List.forall_mem_cons.mpr ⟨fun y => tile_piece arg1 harg1 x0 6144 48 rfl (by decide) inb_S128x7168_S128x128_0_6144 y, ?_⟩
    refine List.forall_mem_cons.mpr ⟨fun y => tile_piece arg1 harg1 x0 6016 47 rfl (by decide) inb_S128x7168_S128x128_0_6016 y, ?_⟩
    refine List.forall_mem_cons.mpr ⟨fun y => tile_piece arg1 harg1 x0 5888 46 rfl (by decide) inb_S128x7168_S128x128_0_5888 y, ?_⟩
    refine List.forall_mem_cons.mpr ⟨fun y => tile_piece arg1 harg1 x0 5760 45 rfl (by decide) inb_S128x7168_S128x128_0_5760 y, ?_⟩
    refine List.forall_mem_cons.mpr ⟨fun y => tile_piece arg1 harg1 x0 5632 44 rfl (by decide) inb_S128x7168_S128x128_0_5632 y, ?_⟩
    refine List.forall_mem_cons.mpr ⟨fun y => tile_piece arg1 harg1 x0 5504 43 rfl (by decide) inb_S128x7168_S128x128_0_5504 y, ?_⟩
    refine List.forall_mem_cons.mpr ⟨fun y => tile_piece arg1 harg1 x0 5376 42 rfl (by decide) inb_S128x7168_S128x128_0_5376 y, ?_⟩
    refine List.forall_mem_cons.mpr ⟨fun y => tile_piece arg1 harg1 x0 5248 41 rfl (by decide) inb_S128x7168_S128x128_0_5248 y, ?_⟩
    refine List.forall_mem_cons.mpr ⟨fun y => tile_piece arg1 harg1 x0 5120 40 rfl (by decide) inb_S128x7168_S128x128_0_5120 y, ?_⟩
    refine List.forall_mem_cons.mpr ⟨fun y => tile_piece arg1 harg1 x0 4992 39 rfl (by decide) inb_S128x7168_S128x128_0_4992 y, ?_⟩
    refine List.forall_mem_cons.mpr ⟨fun y => tile_piece arg1 harg1 x0 4864 38 rfl (by decide) inb_S128x7168_S128x128_0_4864 y, ?_⟩
    refine List.forall_mem_cons.mpr ⟨fun y => tile_piece arg1 harg1 x0 4736 37 rfl (by decide) inb_S128x7168_S128x128_0_4736 y, ?_⟩
    refine List.forall_mem_cons.mpr ⟨fun y => tile_piece arg1 harg1 x0 4608 36 rfl (by decide) inb_S128x7168_S128x128_0_4608 y, ?_⟩
    refine List.forall_mem_cons.mpr ⟨fun y => tile_piece arg1 harg1 x0 4480 35 rfl (by decide) inb_S128x7168_S128x128_0_4480 y, ?_⟩
    refine List.forall_mem_cons.mpr ⟨fun y => tile_piece arg1 harg1 x0 4352 34 rfl (by decide) inb_S128x7168_S128x128_0_4352 y, ?_⟩
    refine List.forall_mem_cons.mpr ⟨fun y => tile_piece arg1 harg1 x0 4224 33 rfl (by decide) inb_S128x7168_S128x128_0_4224 y, ?_⟩
    refine List.forall_mem_cons.mpr ⟨fun y => tile_piece arg1 harg1 x0 4096 32 rfl (by decide) inb_S128x7168_S128x128_0_4096 y, ?_⟩
    refine List.forall_mem_cons.mpr ⟨fun y => tile_piece arg1 harg1 x0 3968 31 rfl (by decide) inb_S128x7168_S128x128_0_3968 y, ?_⟩
    refine List.forall_mem_cons.mpr ⟨fun y => tile_piece arg1 harg1 x0 3840 30 rfl (by decide) inb_S128x7168_S128x128_0_3840 y, ?_⟩
    refine List.forall_mem_cons.mpr ⟨fun y => tile_piece arg1 harg1 x0 3712 29 rfl (by decide) inb_S128x7168_S128x128_0_3712 y, ?_⟩
    refine List.forall_mem_cons.mpr ⟨fun y => tile_piece arg1 harg1 x0 3584 28 rfl (by decide) inb_S128x7168_S128x128_0_3584 y, ?_⟩
    refine List.forall_mem_cons.mpr ⟨fun y => tile_piece arg1 harg1 x0 3456 27 rfl (by decide) inb_S128x7168_S128x128_0_3456 y, ?_⟩
    refine List.forall_mem_cons.mpr ⟨fun y => tile_piece arg1 harg1 x0 3328 26 rfl (by decide) inb_S128x7168_S128x128_0_3328 y, ?_⟩
    refine List.forall_mem_cons.mpr ⟨fun y => tile_piece arg1 harg1 x0 3200 25 rfl (by decide) inb_S128x7168_S128x128_0_3200 y, ?_⟩
    refine List.forall_mem_cons.mpr ⟨fun y => tile_piece arg1 harg1 x0 3072 24 rfl (by decide) inb_S128x7168_S128x128_0_3072 y, ?_⟩
    refine List.forall_mem_cons.mpr ⟨fun y => tile_piece arg1 harg1 x0 2944 23 rfl (by decide) inb_S128x7168_S128x128_0_2944 y, ?_⟩
    refine List.forall_mem_cons.mpr ⟨fun y => tile_piece arg1 harg1 x0 2816 22 rfl (by decide) inb_S128x7168_S128x128_0_2816 y, ?_⟩
    refine List.forall_mem_cons.mpr ⟨fun y => tile_piece arg1 harg1 x0 2688 21 rfl (by decide) inb_S128x7168_S128x128_0_2688 y, ?_⟩
    refine List.forall_mem_cons.mpr ⟨fun y => tile_piece arg1 harg1 x0 2560 20 rfl (by decide) inb_S128x7168_S128x128_0_2560 y, ?_⟩
    refine List.forall_mem_cons.mpr ⟨fun y => tile_piece arg1 harg1 x0 2432 19 rfl (by decide) inb_S128x7168_S128x128_0_2432 y, ?_⟩
    refine List.forall_mem_cons.mpr ⟨fun y => tile_piece arg1 harg1 x0 2304 18 rfl (by decide) inb_S128x7168_S128x128_0_2304 y, ?_⟩
    refine List.forall_mem_cons.mpr ⟨fun y => tile_piece arg1 harg1 x0 2176 17 rfl (by decide) inb_S128x7168_S128x128_0_2176 y, ?_⟩
    refine List.forall_mem_cons.mpr ⟨fun y => tile_piece arg1 harg1 x0 2048 16 rfl (by decide) inb_S128x7168_S128x128_0_2048 y, ?_⟩
    refine List.forall_mem_cons.mpr ⟨fun y => tile_piece arg1 harg1 x0 1920 15 rfl (by decide) inb_S128x7168_S128x128_0_1920 y, ?_⟩
    refine List.forall_mem_cons.mpr ⟨fun y => tile_piece arg1 harg1 x0 1792 14 rfl (by decide) inb_S128x7168_S128x128_0_1792 y, ?_⟩
    refine List.forall_mem_cons.mpr ⟨fun y => tile_piece arg1 harg1 x0 1664 13 rfl (by decide) inb_S128x7168_S128x128_0_1664 y, ?_⟩
    refine List.forall_mem_cons.mpr ⟨fun y => tile_piece arg1 harg1 x0 1536 12 rfl (by decide) inb_S128x7168_S128x128_0_1536 y, ?_⟩
    refine List.forall_mem_cons.mpr ⟨fun y => tile_piece arg1 harg1 x0 1408 11 rfl (by decide) inb_S128x7168_S128x128_0_1408 y, ?_⟩
    refine List.forall_mem_cons.mpr ⟨fun y => tile_piece arg1 harg1 x0 1280 10 rfl (by decide) inb_S128x7168_S128x128_0_1280 y, ?_⟩
    refine List.forall_mem_cons.mpr ⟨fun y => tile_piece arg1 harg1 x0 1152 9 rfl (by decide) inb_S128x7168_S128x128_0_1152 y, ?_⟩
    refine List.forall_mem_cons.mpr ⟨fun y => tile_piece arg1 harg1 x0 1024 8 rfl (by decide) inb_S128x7168_S128x128_0_1024 y, ?_⟩
    refine List.forall_mem_cons.mpr ⟨fun y => tile_piece arg1 harg1 x0 896 7 rfl (by decide) inb_S128x7168_S128x128_0_896 y, ?_⟩
    refine List.forall_mem_cons.mpr ⟨fun y => tile_piece arg1 harg1 x0 768 6 rfl (by decide) inb_S128x7168_S128x128_0_768 y, ?_⟩
    refine List.forall_mem_cons.mpr ⟨fun y => tile_piece arg1 harg1 x0 640 5 rfl (by decide) inb_S128x7168_S128x128_0_640 y, ?_⟩
    refine List.forall_mem_cons.mpr ⟨fun y => tile_piece arg1 harg1 x0 512 4 rfl (by decide) inb_S128x7168_S128x128_0_512 y, ?_⟩
    refine List.forall_mem_cons.mpr ⟨fun y => tile_piece arg1 harg1 x0 384 3 rfl (by decide) inb_S128x7168_S128x128_0_384 y, ?_⟩
    refine List.forall_mem_cons.mpr ⟨fun y => tile_piece arg1 harg1 x0 256 2 rfl (by decide) inb_S128x7168_S128x128_0_256 y, ?_⟩
    refine List.forall_mem_cons.mpr ⟨fun y => tile_piece arg1 harg1 x0 128 1 rfl (by decide) inb_S128x7168_S128x128_0_128 y, ?_⟩
    refine List.forall_mem_cons.mpr ⟨fun y => tile_piece arg1 harg1 x0 0 0 rfl (by decide) inb_S128x7168_S128x128_0_0 y, ?_⟩
    exact fun p hp => absurd hp List.not_mem_nil
  · exact fun y => View.cover_of_tiledL (s := S128x7168) _ ![128, 128] (by sl_kernel_rfl) y

end Cert.QuantBlock
end
-- ==== Proof.Exponent.lean ====
module
public import Idealize.ShloMosaic.PureOps.Ideal.Laws
public import Idealize.ShloMosaic.PureOps.Reduce
public import Mathlib.Data.Nat.Find
public import Mathlib.Tactic.Linarith
public import Mathlib.Tactic.IntervalCases
@[expose] public section
set_option maxRecDepth 16384
/-!
# The shared exponent of one group of 32 numbers

The kernel finds the exponent by a binary search over the eight-bit exponent field, the reference by counting the
powers of two that are not above its number. Both are functions of the group's largest absolute value `A` alone; for
`0 ≤ A` they agree (`kexp_eq_rexp`), and the exponent plus 127 is a number from 0 to 254 (`kexp_range`).
-/
noncomputable section
namespace Cert.Exponent
open Idealize.ShloMosaic

/-- The float whose exponent field is the word `b`, all other bits clear. -/
def pw (b : BitVec 32) : EReal := Ideal.ofBits .f32 (IntOp.shli .vector b 23#32)

/-- The values such floats take: zero, the powers of two from `2⁻¹²⁶` to `2¹²⁷`, infinity. -/
def P (n : ℕ) : EReal := if n = 0 then 0 else if n = 255 then ⊤ else (((2 : ℝ) ^ ((n : ℤ) - 127) : ℝ) : EReal)

theorem field_bits : ∀ n : Fin 256,
    (IntOp.shli .vector (BitVec.ofNat 32 n.val) 23#32).extractLsb' 31 1 = 0#1
    ∧ ((IntOp.shli .vector (BitVec.ofNat 32 n.val) 23#32).extractLsb' 23 8).toNat = n.val
    ∧ ((IntOp.shli .vector (BitVec.ofNat 32 n.val) 23#32).extractLsb' 0 23).toNat = 0 := by decide +kernel

theorem ieee_of_bits (b : BitVec 32) (n : ℕ) (h1 : b.extractLsb' 31 1 = 0#1) (h2 : (b.extractLsb' 23 8).toNat = n)
    (h3 : (b.extractLsb' 0 23).toNat = 0) : Ideal.ofBits .f32 b = P n := by
  unfold P
  simp only [Ideal.ofBits, Ideal.ieee]
  rw [show (8 + 23 : ℕ) = 31 from rfl, h1, h2, h3]
  by_cases h0 : n = 0
  · subst h0; norm_num
  · by_cases h5 : n = 255
    · subst h5; norm_num
    · rw [if_neg (by norm_num; exact h5), if_neg h0, if_neg h0, if_neg h5]
      have e : ((2 : ℝ) ^ ((n : ℤ) - 127)) = 2 ^ (23 : ℤ) * 2 ^ ((n : ℤ) - 127 - 23) := by
        rw [← zpow_add₀ (by norm_num)]; congr 1; ring
      rw [e]; norm_num

theorem pw_ofNat (n : ℕ) (h : n ≤ 255) : pw (BitVec.ofNat 32 n) = P n := by
  obtain ⟨h1, h2, h3⟩ := field_bits ⟨n, by omega⟩
  exact ieee_of_bits _ n h1 h2 h3

theorem P_zero : P 0 = 0 := by simp [P]
theorem P_mid (n : ℕ) (h0 : n ≠ 0) (h : n ≤ 254) : P n = (((2 : ℝ) ^ ((n : ℤ) - 127) : ℝ) : EReal) := by
  unfold P; rw [if_neg h0, if_neg (by omega)]
theorem P_top : P 255 = ⊤ := by simp [P]

/-- A scale below infinity is a nonnegative real. -/
theorem P_real (n : ℕ) (h : n ≤ 254) : ∃ r : ℝ, 0 ≤ r ∧ P n = (r : EReal) := by
  by_cases h0 : n = 0
  · subst h0; exact ⟨0, le_rfl, by rw [P_zero]; rfl⟩
  · exact ⟨_, by positivity, P_mid n h0 h⟩

theorem P_mono {m n : ℕ} (h : m ≤ n) (hn : n ≤ 255) : P m ≤ P n := by
  by_cases h5 : n = 255
  · subst h5; rw [P_top]; exact le_top
  by_cases h0 : m = 0
  · subst h0; rw [P_zero]
    obtain ⟨r, hr, e⟩ := P_real n (by omega)
    rw [e]; exact_mod_cast hr
  · rw [P_mid m h0 (by omega), P_mid n (by omega) (by omega)]
    exact EReal.coe_le_coe_iff.mpr (zpow_le_zpow_right₀ (by norm_num) (by omega))

/-- Numbers below the smallest normal one are replaced by zero. -/
def fl (v : EReal) : EReal := Scalar.select (Ideal.cmp .olt v (Ideal.ofBits .f32 0x00800000#32)) (Ideal.ofBits .f32 0x00000000#32) v

theorem tiny_eq : Ideal.ofBits .f32 0x00800000#32 = P 1 := pw_ofNat 1 (by norm_num)

theorem fl_of_lt {v : EReal} (h : v < P 1) : fl v = 0 := by
  unfold fl
  rw [tiny_eq, Ideal.ofBits_zero_f32]
  simp [Ideal.cmp, h, Scalar.select]

theorem fl_of_le {v : EReal} (h : P 1 ≤ v) : fl v = v := by
  unfold fl
  rw [tiny_eq]
  simp [Ideal.cmp, not_lt.mpr h, Scalar.select]

theorem exp2_int (z : ℤ) : Ideal.exp2 (((z : ℤ) : ℝ) : EReal) = (((2 : ℝ) ^ z : ℝ) : EReal) := by
  rw [Ideal.exp2_coe]
  congr 1
  exact Real.rpow_intCast 2 z

/-- The flushed power of two is the float with that exponent field. -/
theorem fl_exp2 (n : ℕ) (h : n ≤ 254) : fl (Ideal.exp2 ((((n : ℤ) - 127 : ℤ) : ℝ) : EReal)) = P n := by
  rw [exp2_int]
  by_cases h0 : n = 0
  · subst h0
    rw [fl_of_lt, P_zero]
    rw [P_mid 1 (by norm_num) (by norm_num)]
    exact EReal.coe_lt_coe_iff.mpr (zpow_lt_zpow_right₀ (by norm_num : (1 : ℝ) < 2) (by norm_num))
  · rw [fl_of_le, P_mid n h0 h]
    rw [P_mid 1 (by norm_num) (by norm_num)]
    exact EReal.coe_le_coe_iff.mpr (zpow_le_zpow_right₀ (by norm_num : (1 : ℝ) ≤ 2) (by omega))

/-- The scale constant, the float next to `1/448`, is a positive real. -/
theorem cst_pos : ∃ r : ℝ, 0 < r ∧ Ideal.ofBits .f32 0x3B124925#32 = (r : EReal) := by
  refine ⟨_, ?_, by simp [Ideal.ofBits, Ideal.ieee]; rfl⟩
  positivity

/-! ## The two exponents -/

/-- One step of the binary search: the field with `b` added if the float of that field is not above `t`. -/
def kstep (t : EReal) (f b : BitVec 32) : BitVec 32 := Scalar.select (Ideal.cmp .oge t (pw (IntOp.addi f b))) (IntOp.addi f b) f

/-- The exponent field the kernel finds. -/
def kfield (t : EReal) : BitVec 32 :=
  kstep t (kstep t (kstep t (kstep t (kstep t (kstep t (kstep t (kstep t 0#32 128#32) 64#32) 32#32) 16#32) 8#32) 4#32) 2#32) 1#32

/-- The exponent from its field, before zero groups are set aside. -/
def kraw (t : EReal) : BitVec 32 :=
  let f := Scalar.select (Ideal.cmp .one t t) 255#32 (kfield t)
  Scalar.select (IntOp.cmpi .eq f 0#32) 0#32 (IntOp.subi f 126#32)

/-- The kernel's exponent of a group with largest absolute value `A`. -/
def kexp (A : EReal) : BitVec 32 :=
  IntOp.minsi 127#32 (IntOp.maxsi 4294967169#32
    (Scalar.select (Ideal.cmp .oeq A (Ideal.ofBits .f32 0x00000000#32)) 0#32 (kraw (A * Ideal.ofBits .f32 0x3B124925#32))))

/-- How many of the powers of two from `2⁻¹²⁶` to `2¹²⁷` are not above `t`. -/
def rcount (t : EReal) : BitVec 32 :=
  (Finset.univ : Finset (Fin 254)).fold IntOp.addi 0#32 fun j =>
    (Ideal.cmp .oge t (Ideal.exp2 (((IntOp.subi (BitVec.ofNat 32 j.val) 126#32).toInt : ℝ) : EReal))).setWidth 32

/-- The reference's exponent of a group with largest absolute value `A`. -/
def rexp (A : EReal) : BitVec 32 :=
  let t := fl (A * Ideal.ofBits .f32 0x3B124925#32)
  IntOp.minsi 127#32 (IntOp.maxsi 4294967169#32
    (Scalar.select (Ideal.cmp .oeq t (Ideal.ofBits .f32 0x00000000#32)) 0#32 (IntOp.subi (rcount t) 126#32)))

/-- Every nonnegative number has an exponent field: the largest whose float is not above it. -/
theorem exists_field (t : EReal) (h : 0 ≤ t) : ∃ G : ℕ, G ≤ 255 ∧ ∀ f ≤ 255, (P f ≤ t ↔ f ≤ G) := by
  classical
  refine ⟨Nat.findGreatest (fun f => P f ≤ t) 255, Nat.findGreatest_le _, fun f hf => ⟨fun hp => ?_, fun hle => ?_⟩⟩
  · exact Nat.le_findGreatest hf hp
  · have h0 : P 0 ≤ t := by rw [P_zero]; exact h
    have := Nat.findGreatest_spec (P := fun f => P f ≤ t) (Nat.zero_le 255) h0
    exact le_trans (P_mono hle (Nat.findGreatest_le _)) this

theorem kstep_eq (t : EReal) (G : ℕ) (hG : ∀ f ≤ 255, (P f ≤ t ↔ f ≤ G)) (n b : ℕ) (h : n + b ≤ 255) :
    kstep t (BitVec.ofNat 32 n) (BitVec.ofNat 32 b) = BitVec.ofNat 32 (if n + b ≤ G then n + b else n) := by
  unfold kstep
  have e : IntOp.addi (BitVec.ofNat 32 n) (BitVec.ofNat 32 b) = BitVec.ofNat 32 (n + b) := by
    simp [IntOp.addi, BitVec.ofNat_add]
  rw [e, pw_ofNat _ h]
  by_cases hp : n + b ≤ G
  · have := (hG _ h).mpr hp
    simp [Ideal.cmp, Scalar.select, hp, this]
  · have : ¬ P (n + b) ≤ t := fun hh => hp ((hG _ h).mp hh)
    simp only [Ideal.cmp, Scalar.select, decide_eq_false this, if_neg hp]
    rfl

theorem kfield_eq (t : EReal) (G : ℕ) (h5 : G ≤ 255) (hG : ∀ f ≤ 255, (P f ≤ t ↔ f ≤ G)) : kfield t = BitVec.ofNat 32 G := by
  unfold kfield
  have s (n b : ℕ) (h : n + b ≤ 255) := kstep_eq t G hG n b h
  rw [show (0#32) = BitVec.ofNat 32 0 from rfl, show (128#32) = BitVec.ofNat 32 128 from rfl, s 0 128 (by norm_num)]
  obtain ⟨n1, e1⟩ : ∃ n, n = (if 0 + 128 ≤ G then 0 + 128 else 0) := ⟨_, rfl⟩
  rw [← e1, show (64#32) = BitVec.ofNat 32 64 from rfl, s n1 64 (by split at e1 <;> omega)]
  obtain ⟨n2, e2⟩ : ∃ n, n = (if n1 + 64 ≤ G then n1 + 64 else n1) := ⟨_, rfl⟩
  have b1 : n1 ≤ 128 ∧ n1 ≤ G ∧ G < n1 + 128 := by split at e1 <;> omega
  have b2 : n2 ≤ 192 ∧ n2 ≤ G ∧ G < n2 + 64 := by split at e2 <;> omega
  rw [← e2, show (32#32) = BitVec.ofNat 32 32 from rfl, s n2 32 (by omega)]
  obtain ⟨n3, e3⟩ : ∃ n, n = (if n2 + 32 ≤ G then n2 + 32 else n2) := ⟨_, rfl⟩
  have b3 : n3 ≤ 224 ∧ n3 ≤ G ∧ G < n3 + 32 := by split at e3 <;> omega
  rw [← e3, show (16#32) = BitVec.ofNat 32 16 from rfl, s n3 16 (by omega)]
  obtain ⟨n4, e4⟩ : ∃ n, n = (if n3 + 16 ≤ G then n3 + 16 else n3) := ⟨_, rfl⟩
  have b4 : n4 ≤ 240 ∧ n4 ≤ G ∧ G < n4 + 16 := by split at e4 <;> omega
  rw [← e4, show (8#32) = BitVec.ofNat 32 8 from rfl, s n4 8 (by omega)]
  obtain ⟨n5, e5⟩ : ∃ n, n = (if n4 + 8 ≤ G then n4 + 8 else n4) := ⟨_, rfl⟩
  have b5 : n5 ≤ 248 ∧ n5 ≤ G ∧ G < n5 + 8 := by split at e5 <;> omega
  rw [← e5, show (4#32) = BitVec.ofNat 32 4 from rfl, s n5 4 (by omega)]
  obtain ⟨n6, e6⟩ : ∃ n, n = (if n5 + 4 ≤ G then n5 + 4 else n5) := ⟨_, rfl⟩
  have b6 : n6 ≤ 252 ∧ n6 ≤ G ∧ G < n6 + 4 := by split at e6 <;> omega
  rw [← e6, show (2#32) = BitVec.ofNat 32 2 from rfl, s n6 2 (by omega)]
  obtain ⟨n7, e7⟩ : ∃ n, n = (if n6 + 2 ≤ G then n6 + 2 else n6) := ⟨_, rfl⟩
  have b7 : n7 ≤ 254 ∧ n7 ≤ G ∧ G < n7 + 2 := by split at e7 <;> omega
  rw [← e7, show (1#32) = BitVec.ofNat 32 1 from rfl, s n7 1 (by omega)]
  congr 1
  split <;> omega

theorem iota_toInt : ∀ j : Fin 254, (IntOp.subi (BitVec.ofNat 32 j.val) 126#32).toInt = (j.val : ℤ) - 126 := by decide +kernel

theorem fold_count {ι : Type} [DecidableEq ι] (p : ι → BitVec 1) (S : Finset ι) :
    S.fold IntOp.addi 0#32 (fun k => (p k).setWidth 32) = BitVec.ofNat 32 (S.filter fun k => p k = 1#1).card := by
  induction S using Finset.induction_on with
  | empty => rfl
  | insert a S ha ih =>
    rw [Finset.fold_insert ha, ih, Finset.filter_insert]
    by_cases h : p a = 1#1
    · rw [if_pos h, Finset.card_insert_of_notMem (by simp [ha]), h]
      simp only [IntOp.addi, BitVec.ofNat_add]
      exact BitVec.add_comm _ _
    · have h0 : p a = 0#1 := by
        have := (p a).isLt
        apply BitVec.eq_of_toNat_eq
        have h' : (p a).toNat ≠ 1 := fun e => h (BitVec.eq_of_toNat_eq e)
        simp; omega
      rw [if_neg h, h0]
      simp [IntOp.addi]

theorem card_below : ∀ G : Fin 256, (Finset.univ.filter fun j : Fin 254 => j.val + 1 ≤ G.val).card = min G.val 254 := by
  decide +kernel

theorem rcount_eq (t : EReal) (G : ℕ) (h5 : G ≤ 255) (hG : ∀ f ≤ 255, (P f ≤ t ↔ f ≤ G)) :
    rcount (fl t) = BitVec.ofNat 32 (min G 254) := by
  unfold rcount
  rw [fold_count, ← card_below ⟨G, by omega⟩]
  congr 2
  ext j
  simp only [Finset.mem_filter, Finset.mem_univ, true_and]
  have hj := j.isLt
  have hz : ((IntOp.subi (BitVec.ofNat 32 j.val) 126#32).toInt : ℤ) = ((j.val + 1 : ℕ) : ℤ) - 127 := by
    rw [iota_toInt]; push_cast; ring
  rw [hz, exp2_int, ← P_mid (j.val + 1) (by omega) (by omega)]
  have key : P (j.val + 1) ≤ fl t ↔ j.val + 1 ≤ G := by
    by_cases h1 : P 1 ≤ t
    · rw [fl_of_le h1]; exact hG _ (by omega)
    · rw [fl_of_lt (not_le.mp h1)]
      have g0 : ¬ 1 ≤ G := fun hh => h1 ((hG 1 (by norm_num)).mpr hh)
      constructor
      · intro hh
        exfalso
        rw [P_mid (j.val + 1) (by omega) (by omega)] at hh
        have : (0 : ℝ) < 2 ^ (((j.val + 1 : ℕ) : ℤ) - 127) := by positivity
        have h2 : ((2 : ℝ) ^ (((j.val + 1 : ℕ) : ℤ) - 127)) ≤ 0 := by exact_mod_cast hh
        linarith
      · intro hh; omega
  rw [← key]
  simp [Ideal.cmp]
  cases hd : decide (P (j.val + 1) ≤ fl t) <;> simp_all

theorem finals : ∀ G : Fin 256,
    IntOp.minsi 127#32 (IntOp.maxsi 4294967169#32 (if G.val = 0 then 0#32 else IntOp.subi (BitVec.ofNat 32 G.val) 126#32))
      = IntOp.minsi 127#32 (IntOp.maxsi 4294967169#32 (if G.val = 0 then 0#32 else IntOp.subi (BitVec.ofNat 32 (min G.val 254)) 126#32))
    ∧ ∃ n : Fin 255, IntOp.minsi 127#32 (IntOp.maxsi 4294967169#32 (if G.val = 0 then 0#32 else IntOp.subi (BitVec.ofNat 32 G.val) 126#32))
      = IntOp.subi (BitVec.ofNat 32 n.val) 127#32 := by decide +kernel

theorem both (A : EReal) (hA : 0 ≤ A) : kexp A = rexp A ∧ ∃ n : ℕ, n ≤ 254 ∧ kexp A = IntOp.subi (BitVec.ofNat 32 n) 127#32 := by
  obtain ⟨r, hr, hc⟩ := cst_pos
  set c := Ideal.ofBits .f32 0x3B124925#32 with hcdef
  have hc0 : 0 ≤ c := by rw [hc]; exact_mod_cast hr.le
  have ht : 0 ≤ A * c := mul_nonneg hA hc0
  obtain ⟨G, h5, hG⟩ := exists_field (A * c) ht
  have hraw : kraw (A * c) = if G = 0 then 0#32 else IntOp.subi (BitVec.ofNat 32 G) 126#32 := by
    unfold kraw
    rw [kfield_eq _ G h5 hG]
    have : Ideal.cmp .one (A * c) (A * c) = 0#1 := by simp [Ideal.cmp]
    rw [this]
    by_cases g0 : G = 0
    · subst g0; rfl
    · have hne : (BitVec.ofNat 32 G == 0#32) = false := by
        rw [beq_eq_false_iff_ne]
        intro e
        have := congrArg BitVec.toNat e
        simp at this
        omega
      rw [if_neg g0]
      simp only [Scalar.select, IntOp.cmpi]
      simp [hne]
  have hk : kexp A = IntOp.minsi 127#32 (IntOp.maxsi 4294967169#32 (if G = 0 then 0#32 else IntOp.subi (BitVec.ofNat 32 G) 126#32)) := by
    unfold kexp
    rw [hraw]
    congr 2
    rw [Ideal.ofBits_zero_f32]
    by_cases hA0 : A = 0
    · have g0 : G = 0 := by
        by_contra hne
        have := (hG 1 (by norm_num)).mpr (by omega)
        rw [hA0, zero_mul, P_mid 1 (by norm_num) (by norm_num)] at this
        have h2 : ((2 : ℝ) ^ (((1 : ℕ) : ℤ) - 127)) ≤ 0 := by exact_mod_cast this
        have : (0 : ℝ) < 2 ^ (((1 : ℕ) : ℤ) - 127) := by positivity
        linarith
      rw [if_pos g0]; simp [Scalar.select]
    · simp [Ideal.cmp, Scalar.select, hA0]
  have hr' : rexp A = IntOp.minsi 127#32 (IntOp.maxsi 4294967169#32 (if G = 0 then 0#32 else IntOp.subi (BitVec.ofNat 32 (min G 254)) 126#32)) := by
    unfold rexp
    simp only []
    rw [rcount_eq _ G h5 hG]
    congr 2
    rw [Ideal.ofBits_zero_f32]
    by_cases g0 : G = 0
    · have h1 : ¬ P 1 ≤ A * c := fun hh => by have := (hG 1 (by norm_num)).mp hh; omega
      rw [fl_of_lt (not_le.mp h1), if_pos g0]
      simp [Ideal.cmp, Scalar.select]
    · have h1 : P 1 ≤ A * c := (hG 1 (by norm_num)).mpr (by omega)
      rw [fl_of_le h1, if_neg g0]
      have hne : A * c ≠ 0 := by
        intro e
        rw [e, P_mid 1 (by norm_num) (by norm_num)] at h1
        have h2 : ((2 : ℝ) ^ (((1 : ℕ) : ℤ) - 127)) ≤ 0 := by exact_mod_cast h1
        have : (0 : ℝ) < 2 ^ (((1 : ℕ) : ℤ) - 127) := by positivity
        linarith
      simp [Ideal.cmp, Scalar.select, hne]
  obtain ⟨f1, n, f2⟩ := finals ⟨G, by omega⟩
  refine ⟨by rw [hk, hr']; exact f1, n.val, by have := n.isLt; omega, by rw [hk]; exact f2⟩

theorem kexp_eq_rexp (A : EReal) (hA : 0 ≤ A) : kexp A = rexp A := (both A hA).1
theorem kexp_range (A : EReal) (hA : 0 ≤ A) : ∃ n : ℕ, n ≤ 254 ∧ kexp A = IntOp.subi (BitVec.ofNat 32 n) 127#32 := (both A hA).2

/-! ## The three powers of two -/

theorem neg_word : ∀ n : Fin 255, IntOp.subi 127#32 (IntOp.subi (BitVec.ofNat 32 n.val) 127#32) = BitVec.ofNat 32 (254 - n.val)
    ∧ IntOp.addi 127#32 (IntOp.subi (BitVec.ofNat 32 n.val) 127#32) = BitVec.ofNat 32 n.val
    ∧ (IntOp.subi 0#32 (IntOp.subi (BitVec.ofNat 32 n.val) 127#32)).toInt = ((254 - n.val : ℕ) : ℤ) - 127
    ∧ (IntOp.subi (((IntOp.addi (IntOp.subi (BitVec.ofNat 32 n.val) 127#32) 127#32).setWidth 8).setWidth 32) 127#32).toInt = (n.val : ℤ) - 127 := by
  decide +kernel

/-- The reciprocal scale: the kernel's float with exponent field `127 - e`. -/
def kinv (A : EReal) : EReal := pw (IntOp.subi 127#32 (kexp A))
/-- The scale: the kernel's float with exponent field `127 + e`. -/
def kfwd (A : EReal) : EReal := pw (IntOp.addi 127#32 (kexp A))
/-- The stored scale byte. -/
def kbyte (A : EReal) : BitVec 8 := (IntOp.addi (kexp A) 127#32).setWidth 8

/-- A scale byte read as the power of two it stands for, as the reference reads it. -/
def rscale (b : BitVec 8) : EReal := fl (Ideal.exp2 (((IntOp.subi (b.setWidth 32) 127#32).toInt : ℝ) : EReal))

theorem kinv_eq (A : EReal) (hA : 0 ≤ A) : kinv A = fl (Ideal.exp2 (((IntOp.subi 0#32 (rexp A)).toInt : ℝ) : EReal)) := by
  obtain ⟨n, hn, e⟩ := kexp_range A hA
  obtain ⟨h1, -, h3, -⟩ := neg_word ⟨n, by omega⟩
  simp only [] at h1 h3
  rw [← kexp_eq_rexp A hA, kinv, e, h1, h3, pw_ofNat _ (by omega), fl_exp2 _ (by omega)]

theorem kfwd_eq (A : EReal) (hA : 0 ≤ A) : kfwd A = rscale (kbyte A) := by
  obtain ⟨n, hn, e⟩ := kexp_range A hA
  obtain ⟨-, h2, -, h4⟩ := neg_word ⟨n, by omega⟩
  simp only [] at h2 h4
  rw [kfwd, rscale, kbyte, e, h2, h4, pw_ofNat _ (by omega), fl_exp2 _ (by omega)]

theorem kfwd_real (A : EReal) (hA : 0 ≤ A) : ∃ r : ℝ, 0 ≤ r ∧ kfwd A = (r : EReal) := by
  obtain ⟨n, hn, e⟩ := kexp_range A hA
  obtain ⟨-, h2, -, -⟩ := neg_word ⟨n, by omega⟩
  simp only [] at h2
  obtain ⟨r, hr, e'⟩ := P_real n hn
  exact ⟨r, hr, by rw [kfwd, e, h2, pw_ofNat _ (by omega), e']⟩

theorem byte_word : ∀ b : BitVec 8, b.setWidth 32 = BitVec.ofNat 32 b.toNat
    ∧ (IntOp.subi (b.setWidth 32) 127#32).toInt = (b.toNat : ℤ) - 127 := by decide +kernel

/-- A weight scale byte below 255: the kernel's float and the reference's power of two are the same. -/
theorem pw_byte (b : BitVec 8) (h : b.toNat ≤ 254) : pw (b.setWidth 32) = rscale b := by
  obtain ⟨h1, h2⟩ := byte_word b
  rw [rscale, h1, ← h1, h2, h1, pw_ofNat _ (by omega), fl_exp2 _ h]

theorem pw_byte_real (b : BitVec 8) (h : b.toNat ≤ 254) : ∃ r : ℝ, 0 ≤ r ∧ rscale b = (r : EReal) := by
  obtain ⟨r, hr, e⟩ := P_real b.toNat h
  exact ⟨r, hr, by rw [rscale, (byte_word b).2, fl_exp2 _ h, e]⟩

end Cert.Exponent
end
-- ==== Proof.BlockValue.lean ====
module
public import proofs.«01_k».proof.Proof.QuantBlock
public import proofs.«01_k».proof.Proof.Exponent
public import Idealize.ShloMosaic.Lib.KernelVsHost
public import Idealize.ShloMosaic.Lib.MatmulPlain
@[expose] public section
set_option maxRecDepth 16384
/-!
# The three kernels' blocks, element by element

Over the extended reals each element of a block is a plain formula of the row it comes from: the group's largest absolute
value (`amax`), its exponent (`Exponent.kexp`), the clipped quotient, the scale.
-/
noncomputable section
namespace Cert.BlockValue
open Cert.KernelIdeal Cert.KernelIdeal.Gen Cert.QuantBlock Cert.Exponent
open Idealize.ShloMosaic hiding ix1 ix2 ix3
open Idealize.ShloMosaic.TcCoe Idealize.ShloMosaic.ValueIdx

/-- Column `j` of group `g`. -/
def lane (g : Fin 224) (j : Fin 32) : Fin 7168 := ⟨32 * g.val + j.val, by have := g.isLt; have := j.isLt; omega⟩
/-- The group of column `k`. -/
def grp (k : Fin 7168) : Fin 224 := ⟨k.val / 32, by have := k.isLt; omega⟩

/-- The largest absolute value in group `g` of a row. -/
def amax (row : Fin 7168 → EReal) (g : Fin 224) : EReal :=
  (Finset.univ : Finset (Fin 32)).sup fun j => max (row (lane g j)) (-(row (lane g j)))

theorem abs_nonneg' (a : EReal) : 0 ≤ max a (-a) := by
  rcases le_total 0 a with h | h
  · exact le_max_of_le_left h
  · exact le_max_of_le_right (EReal.neg_nonneg.mpr h)

theorem amax_nonneg (row : Fin 7168 → EReal) (g : Fin 224) : 0 ≤ amax row g :=
  le_trans (abs_nonneg' _) (Finset.le_sup (f := fun j => max (row (lane g j)) (-(row (lane g j)))) (Finset.mem_univ (0 : Fin 32)))

/-- A quotient clipped to the range of the code format. -/
def clip (v : EReal) : EReal := min (Ideal.ofBits .f32 0x43E00000#32) (max (Ideal.ofBits .f32 0xC3E00000#32) v)

/-- The code of column `k` of a row. -/
def code (row : Fin 7168 → EReal) (k : Fin 7168) : EReal := clip (row k * kinv (amax row (grp k)))

/-! ## The rolling maximum -/

/-- The maximum of `g` over the `n` places ending at `c`. -/
def win (n : ℕ) (g : ℕ → EReal) (c : ℕ) : EReal := (Finset.range n).sup fun j => g (c - j)

theorem win_double (n : ℕ) (g : ℕ → EReal) (c : ℕ) (h : n ≤ c) : max (win n g c) (win n g (c - n)) = win (n + n) g c := by
  unfold win
  refine le_antisymm (max_le ?_ ?_) (Finset.sup_le fun j hj => ?_)
  · exact Finset.sup_mono (Finset.range_mono (by omega))
  · refine Finset.sup_le fun j hj => ?_
    have hj' := Finset.mem_range.mp hj
    rw [show c - n - j = c - (n + j) by omega]
    exact Finset.le_sup (f := fun j => g (c - j)) (Finset.mem_range.mpr (by omega))
  · have hj' := Finset.mem_range.mp hj
    by_cases hn : j < n
    · exact le_max_of_le_left (Finset.le_sup (f := fun j => g (c - j)) (Finset.mem_range.mpr hn))
    · refine le_max_of_le_right ?_
      rw [show c - j = c - n - (j - n) by omega]
      exact Finset.le_sup (f := fun j => g (c - n - j)) (Finset.mem_range.mpr (by omega))

/-- The roll of a tile made on pairs of rows: the even and the odd rows rolled along the lanes, then interleaved again. -/
def pairRoll (n : BitVec 32) (a : FVec Ideal S128x128 .bf16) : FVec Ideal S128x128 .bf16 :=
  interleaveRows S128x128 (dynamicRotate 1 n none (rowsOfParity 0 S64x128 a bitcasts_S128x128_w16_S64x128_w32) rotates_S64x128_d1)
    (dynamicRotate 1 n none (rowsOfParity 1 S64x128 a bitcasts_S128x128_w16_S64x128_w32) rotates_S64x128_d1) bitcasts_S128x128_w16_S64x128_w32

/-- Rolled on pairs of rows, each row is rolled by itself. -/
theorem pairRoll_apply (n : ℕ) (hn : n < 128) (a : FVec Ideal S128x128 .bf16) (r c : Fin 128) (hc : n ≤ c.val) :
    pairRoll (BitVec.ofNat 32 n) a (ix2 r c) = a (ix2 r ⟨c.val - n, by omega⟩) := by
  have hcl := c.isLt
  have hrl := r.isLt
  have hb : (BitVec.ofNat 32 n).toNat = n := by simp; omega
  have key : ∀ (p : Fin 2) (q : Fin 64), 2 * q.val + p.val = r.val →
      dynamicRotate 1 (BitVec.ofNat 32 n) none (rowsOfParity p S64x128 a bitcasts_S128x128_w16_S64x128_w32) rotates_S64x128_d1 (ix2 q c)
        = a (ix2 r ⟨c.val - n, by omega⟩) := by
    intro p q hq
    rw [dynamicRotate_apply 1 (BitVec.ofNat 32 n) _ rotates_S64x128_d1 (ix2 q c) (ix2 q ⟨c.val - n, by omega⟩) (by
      intro b
      rw [hb]
      match b with
      | 0 => rfl
      | 1 =>
        show c.val - n = (c.val + 128 - n % 128) % 128
        omega)]
    rw [rowsOfParity_apply]
    refine congrArg a (funext fun b => Fin.ext ?_)
    match b with
    | 0 => exact hq
    | 1 => rfl
  unfold pairRoll
  rw [interleaveRows_apply]
  have hi : (S128x128.row (ix2 r c)) = r.val := rfl
  rw [hi]
  by_cases hr : r.val % 2 = 0
  · rw [if_pos hr]
    refine Eq.trans (congrArg _ (funext fun b => Fin.ext ?_)) (key 0 ⟨r.val / 2, by omega⟩ (by show 2 * (r.val / 2) + 0 = r.val; omega))
    match b with
    | 0 => rfl
    | 1 => rfl
  · rw [if_neg hr]
    refine Eq.trans (congrArg _ (funext fun b => Fin.ext ?_)) (key 1 ⟨r.val / 2, by omega⟩ (by show 2 * (r.val / 2) + 1 = r.val; omega))
    match b with
    | 0 => rfl
    | 1 => rfl

/-- One roll-and-maximum step doubles the window. -/
theorem roll_step (n : ℕ) (hn : n < 128) (g : ℕ → EReal) (a : FVec Ideal S128x128 .bf16) (r : Fin 128)
    (ha : ∀ c : Fin 128, n ≤ c.val + 1 → a (ix2 r c) = win n g c.val) (c : Fin 128) (hc : n + n ≤ c.val + 1) (h0 : 0 < n) :
    maximumf a (pairRoll (BitVec.ofNat 32 n) a) (ix2 r c) = win (n + n) g c.val := by
  show max (a (ix2 r c)) (pairRoll (BitVec.ofNat 32 n) a (ix2 r c)) = _
  have hcl := c.isLt
  rw [pairRoll_apply n hn a r c (by omega)]
  rw [ha c (by omega), ha ⟨c.val - n, by omega⟩ (by show n ≤ c.val - n + 1; omega)]
  exact win_double n g c.val (by omega)

theorem win_group (g : ℕ → EReal) (q : ℕ) : win 32 g (32 * q + 31) = (Finset.univ : Finset (Fin 32)).sup fun j => g (32 * q + j.val) := by
  unfold win
  refine le_antisymm (Finset.sup_le fun j hj => ?_) (Finset.sup_le fun j _ => ?_)
  · have hj' := Finset.mem_range.mp hj
    rw [show 32 * q + 31 - j = 32 * q + (31 - j) by omega]
    exact Finset.le_sup (f := fun j : Fin 32 => g (32 * q + j.val)) (Finset.mem_univ (⟨31 - j, by omega⟩ : Fin 32))
  · have hj' := j.isLt
    rw [show 32 * q + j.val = 32 * q + 31 - (31 - j.val) by omega]
    exact Finset.le_sup (f := fun i : ℕ => g (32 * q + 31 - i)) (Finset.mem_range.mpr (by omega))

/-- The last lane of each group of a tile holds the group's largest absolute value. -/
theorem tile_last (v : Vec Ideal S128x128 .bf16) (r : Fin 128) (q : Fin 4) :
    k0_pay3 v (ix2 r (⟨32 * q.val + 31, by have := q.isLt; omega⟩ : Fin 128))
      = (Finset.univ : Finset (Fin 32)).sup fun j =>
          max (v (ix2 r (⟨32 * q.val + j.val, by have := q.isLt; have := j.isLt; omega⟩ : Fin 128)))
            (-(v (ix2 r (⟨32 * q.val + j.val, by have := q.isLt; have := j.isLt; omega⟩ : Fin 128)))) := by
  have hq := q.isLt
  let g : ℕ → EReal := fun n => if h : n < 128 then max (v (ix2 r (⟨n, h⟩ : Fin 128))) (-(v (ix2 r (⟨n, h⟩ : Fin 128)))) else 0
  unfold k0_pay3
  simp only [shapeCast_self]
  have h1 : ∀ c : Fin 128, 1 ≤ c.val + 1 → (absf v : FVec Ideal S128x128 .bf16) (ix2 r c) = win 1 g c.val := by
    intro c _
    show max (v (ix2 r c)) (-(v (ix2 r c))) = _
    simp only [win, Finset.range_one, Finset.sup_singleton, Nat.sub_zero, g, dif_pos c.isLt]
  have h2 := fun c hc => roll_step 1 (by decide) g _ r h1 c hc (by decide)
  have h4 := fun c hc => roll_step 2 (by decide) g _ r h2 c hc (by decide)
  have h8 := fun c hc => roll_step 4 (by decide) g _ r h4 c hc (by decide)
  have h16 := fun c hc => roll_step 8 (by decide) g _ r h8 c hc (by decide)
  have h32 := fun c hc => roll_step 16 (by decide) g _ r h16 c hc (by decide)
  refine (h32 (⟨32 * q.val + 31, by omega⟩ : Fin 128) (by show 32 ≤ 32 * q.val + 31 + 1; omega)).trans ?_
  refine (win_group g q.val).trans (Finset.sup_congr rfl fun j _ => ?_)
  have hj := j.isLt
  simp only [g]
  rw [dif_pos (by omega)]

/-- Row `r` of a block. -/
def rowOf {n : ℕ} (x : (⟨2, ![n, 7168]⟩ : Shape).Idx → EReal) (r : Fin n) : Fin 7168 → EReal := fun k => x (ix2 r k)

/-- The last lane of each group of the scratch array holds the group's largest absolute value. -/
theorem groupMax_last (x : Vec Ideal S128x7168 .bf16) (r : Fin 128) (g : Fin 224) :
    groupMax x (ix2 r (lane g 31)) = amax (rowOf x r) g := by
  have hg := g.isLt
  have e : groupMax x (ix2 r (lane g 31)) = k0_pay3 (tileOf x (g.val / 4)) (ix2 r (⟨32 * (⟨g.val % 4, by omega⟩ : Fin 4).val + 31, by
      show 32 * (g.val % 4) + 31 < 128; omega⟩ : Fin 128)) := by
    unfold groupMax
    have hd : ((ix2 r (lane g 31) : S128x7168.Idx) 1).val / 128 = g.val / 4 := by
      show (32 * g.val + 31) / 128 = _; omega
    rw [hd]
    congr 1
    funext a
    match a with
    | 0 => rfl
    | 1 =>
      refine Fin.ext ?_
      show (32 * g.val + 31) % 128 = 32 * (g.val % 4) + 31
      omega
  rw [e, tile_last]
  refine Finset.sup_congr rfl fun j _ => ?_
  have hj := j.isLt
  have e2 : tileOf x (g.val / 4) (ix2 r (⟨32 * (⟨g.val % 4, by omega⟩ : Fin 4).val + j.val, by
      show 32 * (g.val % 4) + j.val < 128; omega⟩ : Fin 128)) = rowOf x r (lane g j) := by
    unfold tileOf rowOf
    congr 1
    funext a
    match a with
    | 0 => rfl
    | 1 =>
      refine Fin.ext ?_
      show (128 * (g.val / 4) + (32 * (g.val % 4) + j.val)) % 7168 = 32 * g.val + j.val
      omega
  rw [e2]

/-! ## The two selection matrices -/

/-- The 0/1 matrix that picks the last lane of every group. -/
def IsSel (sel : Vec Ideal S7168x224 .bf16) : Prop := ∀ (k : Fin 7168) (g : Fin 224), sel (ix2 k g) = if k = lane g 31 then (1 : EReal) else 0
/-- The 0/1 matrix that repeats each group's number over its 32 columns. -/
def IsExp (ex : Vec Ideal S224x7168 .bf16) : Prop := ∀ (g : Fin 224) (k : Fin 7168), ex (ix2 g k) = if g = grp k then (1 : EReal) else 0

theorem pick (x : Vec Ideal S128x7168 .bf16) (sel : Vec Ideal S7168x224 .bf16) (hs : IsSel sel) (r : Fin 128) (g : Fin 224) :
    k0_pay143 x sel (ix2 r g) = x (ix2 r (lane g 31)) := by
  unfold k0_pay143
  simp only [shapeCast_self]
  refine (Ideal.matmul_plain_apply (φ₁ := .bf16) (φ₂ := .bf16) (M := 128) (K := 7168) (N := 224) none x sel _ r g).trans ?_
  have h0 : (constant S128x224 .f32 0x00000000#32 : FVec Ideal S128x224 .f32) (ix2 r g) = (0 : EReal) := Ideal.ofBits_zero_f32
  rw [h0, zero_add, Finset.sum_eq_single (lane g 31)]
  · rw [hs, if_pos rfl, mul_one]
  · intro k _ hk
    rw [hs, if_neg hk, mul_zero]
  · exact fun h => absurd (Finset.mem_univ _) h

theorem spread (d : FVec Ideal S128x224 .bf16) (ex : Vec Ideal S224x7168 .bf16) (he : IsExp ex) (r : Fin 128) (k : Fin 7168) :
    (matmul (φ₂ := .bf16) dot_S128x224_S224x7168_S128x7168_1_0_0_1_n_n none d (shapeCast S224x7168 (α := Ideal .bf16) ex shapeCasts_S224x7168_S224x7168)
      (constant S128x7168 .f32 0x00000000#32) : FVec Ideal S128x7168 .f32) (ix2 r k) = d (ix2 r (grp k)) := by
  rw [shapeCast_self]
  refine (Ideal.matmul_plain_apply (φ₁ := .bf16) (φ₂ := .bf16) (M := 128) (K := 224) (N := 7168) none d ex _ r k).trans ?_
  have h0 : (constant S128x7168 .f32 0x00000000#32 : FVec Ideal S128x7168 .f32) (ix2 r k) = (0 : EReal) := Ideal.ofBits_zero_f32
  rw [h0, zero_add, Finset.sum_eq_single (grp k)]
  · rw [he, if_pos rfl, mul_one]
  · intro g _ hg
    rw [he, if_neg hg, mul_zero]
  · exact fun h => absurd (Finset.mem_univ _) h

/-! ## The quantizer's outputs -/

/-- One step of the binary search on a whole block. -/
def vstep (t : FVec Ideal S128x224 .f32) (f b : IVec S128x224 32) : IVec S128x224 32 :=
  select (cmpf .oge t (bitcastToFloat .f32 (shli (addi f b) (broadcast S128x224 23#32)))) (addi f b) f

theorem vstep_apply (t : FVec Ideal S128x224 .f32) (f b : IVec S128x224 32) (i : S128x224.Idx) :
    vstep t f b i = kstep (t i) (f i) (b i) := rfl

theorem pay145_eq (x : Vec Ideal S128x7168 .bf16) (sel : Vec Ideal S7168x224 .bf16) :
    k0_pay145 x sel = vstep (k0_pay144 x sel) (vstep (k0_pay144 x sel) (vstep (k0_pay144 x sel) (vstep (k0_pay144 x sel) (vstep (k0_pay144 x sel)
      (broadcast S128x224 0#32) (broadcast S128x224 128#32)) (broadcast S128x224 64#32)) (broadcast S128x224 32#32)) (broadcast S128x224 16#32))
      (broadcast S128x224 8#32) := rfl

/-- The exponent of a block from the last five steps' fields. -/
def vraw (t : FVec Ideal S128x224 .f32) (f : IVec S128x224 32) : IVec S128x224 32 :=
  select (cmpi .eq (select (cmpf .one t t) (broadcast S128x224 255#32) f) (broadcast S128x224 0#32)) (broadcast S128x224 0#32)
    (subi (select (cmpf .one t t) (broadcast S128x224 255#32) f) (broadcast S128x224 126#32))

/-- The exponent of a block, zero groups set aside and clipped to what a scale byte holds. -/
def vexp (z t : FVec Ideal S128x224 .f32) (f : IVec S128x224 32) : IVec S128x224 32 :=
  minsi (broadcast S128x224 127#32) (maxsi (broadcast S128x224 4294967169#32)
    (select (cmpf .oeq z (broadcast S128x224 (Scalar.ofBits .f32 0x00000000#32))) (broadcast S128x224 0#32) (vraw t f)))

theorem pay147_eq (z t : FVec Ideal S128x224 .f32) (f : IVec S128x224 32) :
    k0_pay147 z t f (addi f (broadcast S128x224 4#32)) 23#32 = vexp z t (vstep t (vstep t (vstep t f (broadcast S128x224 4#32))
      (broadcast S128x224 2#32)) (broadcast S128x224 1#32)) := rfl

/-- The field after all eight steps. -/
def vfield (t : FVec Ideal S128x224 .f32) : IVec S128x224 32 :=
  vstep t (vstep t (vstep t (vstep t (vstep t (vstep t (vstep t (vstep t (broadcast S128x224 0#32) (broadcast S128x224 128#32))
    (broadcast S128x224 64#32)) (broadcast S128x224 32#32)) (broadcast S128x224 16#32)) (broadcast S128x224 8#32)) (broadcast S128x224 4#32))
    (broadcast S128x224 2#32)) (broadcast S128x224 1#32)

theorem raw_apply (x : Vec Ideal S128x7168 .bf16) (sel : Vec Ideal S7168x224 .bf16) (i : S128x224.Idx) :
    vraw (k0_pay144 x sel) (vfield (k0_pay144 x sel)) i = kraw ((k0_pay143 x sel i : EReal) * Ideal.ofBits .f32 0x3B124925#32) := by
  have ht : k0_pay144 x sel i = ((k0_pay143 x sel i : EReal) * Ideal.ofBits .f32 0x3B124925#32 : EReal) := rfl
  rw [← ht, kraw, kfield]
  generalize k0_pay144 x sel = t
  have e : vfield t i
      = kstep (t i) (kstep (t i) (kstep (t i) (kstep (t i) (kstep (t i) (kstep (t i) (kstep (t i) (kstep (t i) 0#32 128#32) 64#32) 32#32) 16#32) 8#32) 4#32) 2#32) 1#32 := by
    simp only [vfield, vstep_apply]
    rfl
  rw [← e]
  generalize vfield t = f
  rfl

theorem qExp_eq (x0 : Vec Ideal S128x7168 .bf16) (x1 : Vec Ideal S7168x224 .bf16) :
    qExp x0 x1 = vexp (k0_pay143 (groupMax x0) x1) (k0_pay144 (groupMax x0) x1) (vfield (k0_pay144 (groupMax x0) x1)) := by
  unfold qExp
  have h : k0_pay146 (groupMax x0) x1 = addi (k0_pay145 (groupMax x0) x1) (broadcast S128x224 4#32) := rfl
  rw [h, pay147_eq, pay145_eq]
  rfl

section Quant
variable (x0 : Vec Ideal S128x7168 .bf16) (x1 : Vec Ideal S7168x224 .bf16) (x2 : Vec Ideal S224x7168 .bf16) (hs : IsSel x1) (he : IsExp x2)
include hs

/-- The block's exponents. -/
theorem exp_apply (r : Fin 128) (g : Fin 224) :
    qExp x0 x1 (ix2 r g) = kexp (amax (rowOf x0 r) g) := by
  rw [← groupMax_last, ← pick (groupMax x0) x1 hs r g, kexp, ← raw_apply, qExp_eq]
  rfl

theorem qBytes_apply (r : Fin 128) (g : Fin 224) : qBytes x0 x1 (ix2 r g) = kbyte (amax (rowOf x0 r) g) := by
  rw [kbyte, ← exp_apply x0 x1 hs r g]
  rfl

include he

theorem qCodes_apply (r : Fin 128) (k : Fin 7168) : qCodes x0 x1 x2 (ix2 r k) = code (rowOf x0 r) k := by
  have h := spread (truncf .bf16 (bitcastToFloat .f32 (shli (subi (broadcast S128x224 127#32) (qExp x0 x1)) (broadcast S128x224 23#32))) bitsLt_bf16_f32) x2 he r k
  have h' : (truncf .bf16 (bitcastToFloat .f32 (shli (subi (broadcast S128x224 127#32) (qExp x0 x1)) (broadcast S128x224 23#32))) bitsLt_bf16_f32 : FVec Ideal S128x224 .bf16) (ix2 r (grp k)) = kinv (amax (rowOf x0 r) (grp k)) := by
    rw [kinv, ← exp_apply x0 x1 hs r (grp k)]
    rfl
  unfold qCodes k0_pay1 code clip
  rw [← h', ← h]
  simp only [shapeCast_self x0]
  rfl

theorem qDeq_apply (r : Fin 128) (k : Fin 7168) : qDeq x0 x1 x2 (ix2 r k) = code (rowOf x0 r) k * kfwd (amax (rowOf x0 r) (grp k)) := by
  have h := spread (truncf .bf16 (bitcastToFloat .f32 (shli (addi (broadcast S128x224 127#32) (qExp x0 x1)) (broadcast S128x224 23#32))) bitsLt_bf16_f32) x2 he r k
  have h' : (truncf .bf16 (bitcastToFloat .f32 (shli (addi (broadcast S128x224 127#32) (qExp x0 x1)) (broadcast S128x224 23#32))) bitsLt_bf16_f32 : FVec Ideal S128x224 .bf16) (ix2 r (grp k)) = kfwd (amax (rowOf x0 r) (grp k)) := by
    rw [kfwd, ← exp_apply x0 x1 hs r (grp k)]
    rfl
  rw [← qCodes_apply x0 x1 x2 hs he r k, ← h', ← h]
  rfl

end Quant

/-! ## The weights' block and the product's -/

theorem wBlock_apply (v0 : Vec Ideal S128x224 .i8) (x2 : Vec Ideal S224x7168 .bf16) (he : IsExp x2) (v9 : Vec Ideal S128x7168 .fp8e4m3)
    (r : Fin 128) (k : Fin 7168) :
    k1_pay1 v0 x2 v9 (ix2 r k) = (v9 (ix2 r k) : EReal) * pw (BitVec.setWidth 32 (v0 (ix2 r (grp k)))) := by
  have h := spread (truncf .bf16 (bitcastToFloat .f32 (shli (extui 32 v0 natLt_8_32) (broadcast S128x224 23#32))) bitsLt_bf16_f32) x2 he r k
  unfold pw
  refine Eq.trans ?_ (congrArg (fun z : EReal => (v9 (ix2 r k) : EReal) * z) h)
  rfl

theorem yBlock_apply (v0 : Vec Ideal S1024x7168 .bf16) (v2 : Vec Ideal S512x7168 .bf16) (v5 : Vec Ideal S1x512 .f32)
    (r : Fin 1024) (c : Fin 512) :
    k2_pay1 v0 v2 v5 (ix2 r c) = (∑ k : Fin 7168, (v0 (ix2 r k) : EReal) * v2 (ix2 c k)) + v5 (ix2 (0 : Fin 1) c) := by
  unfold k2_pay1
  simp only [shapeCast_self]
  have hm := Ideal.matmul_transposedRhs_apply (φ₁ := .bf16) (φ₂ := .bf16) (M := 1024) (K := 7168) (N := 512) none v0 v2 (constant S1024x512 .f32 0x00000000#32) r c
  have h0 : (constant S1024x512 .f32 0x00000000#32 : FVec Ideal S1024x512 .f32) (ix2 r c) = (0 : EReal) := Ideal.ofBits_zero_f32
  rw [h0, zero_add] at hm
  have hb := broadcastTo_apply v5 broadcasts_S1x512_S1024x512 (ix2 r c) (ix2 (0 : Fin 1) c) (by
    intro a
    match a with
    | 0 => rfl
    | 1 => rfl)
  rw [← hm, ← hb]
  rfl

end Cert.BlockValue
end
-- ==== Proof.Arrays.lean ====
module
public import proofs.«01_k».proof.Proof.BlockValue
public import Idealize.ShloMosaic.Lib.Pipeline.ValueKit
@[expose] public section
set_option maxRecDepth 16384
/-!
# The arrays the three kernels leave

Each output block is written back once, and the blocks cover their array. So every array the kernels leave is given element by
element: the codes, the scale bytes and the scaled-back activations of the first kernel, the scaled-back weights of the second,
the product with its bias of the third.
-/
noncomputable section
namespace Cert.Arrays
open Cert.KernelIdeal Cert.KernelIdeal.Gen Cert.QuantBlock Cert.Exponent Cert.BlockValue
open Idealize.ShloMosaic hiding ix1 ix2 ix3
open Idealize.ShloMosaic.TcCoe Idealize.ShloMosaic.ValueIdx
open Idealize.ShloMosaic.Pipeline

variable (V : (c : Dev nD) → (b : Ref sig .tc) → Buf (Elt Ideal) ((c : Thread nD τ).loc b)) (c : Dev nD)

/-- Row `R` of the activations. -/
def arow (X : Vec Ideal S8192x7168 .bf16) (R : Fin 8192) : Fin 7168 → EReal := fun k => X (ix2 R k)

/-- The codes of all activations. -/
def codesArr (X : Vec Ideal S8192x7168 .bf16) : Vec Ideal S8192x7168 .fp8e4m3 :=
  fun i => code (arow X (i 0)) (i 1)
/-- The scale bytes of all groups. -/
def bytesArr (X : Vec Ideal S8192x7168 .bf16) : Vec Ideal S8192x224 .i8 :=
  fun i => kbyte (amax (arow X (i 0)) (i 1))
/-- The activations, quantized and scaled back. -/
def deqArr (X : Vec Ideal S8192x7168 .bf16) : Vec Ideal S8192x7168 .bf16 :=
  fun i => code (arow X (i 0)) (i 1) * kfwd (amax (arow X (i 0)) (grp (i 1)))
/-- The weights scaled back. -/
def wArr (W : Vec Ideal S12288x7168 .fp8e4m3) (S : Vec Ideal S12288x224 .i8) : Vec Ideal S12288x7168 .bf16 :=
  fun i => (W i : EReal) * pw (BitVec.setWidth 32 (S (ix2 (i 0) (grp (i 1)))))
/-- The product of activations and weights, with the bias. -/
def yArr (A : Vec Ideal S8192x7168 .bf16) (W : Vec Ideal S12288x7168 .bf16) (B : Vec Ideal S1x12288 .f32) : Vec Ideal S8192x12288 .bf16 :=
  fun i => (∑ k : Fin 7168, (A (ix2 (i 0) k) : EReal) * W (ix2 (i 1) k)) + B (ix2 (0 : Fin 1) (i 1))

theorem eta {m n : ℕ} (y : Shape.Idx ⟨2, ![m, n]⟩) : y = ix2 (y 0) (y 1) := by
  funext a; match a with | 0 => rfl | 1 => rfl

/-! ## The first kernel -/

theorem i00 : ∀ t : Fin cfg0.N, win0_0.index t = ![(grid0.coords t 0).val, 0] := (by decide +kernel : ∀ t : Fin grid0.N, _)
theorem i01 : ∀ t : Fin cfg0.N, win0_1.index t = ![0, 0] := (by decide +kernel : ∀ t : Fin grid0.N, _)
theorem i02 : ∀ t : Fin cfg0.N, win0_2.index t = ![0, 0] := (by decide +kernel : ∀ t : Fin grid0.N, _)
theorem i03 : ∀ t : Fin cfg0.N, win0_3.index t = ![(grid0.coords t 0).val, 0] := (by decide +kernel : ∀ t : Fin grid0.N, _)
theorem i04 : ∀ t : Fin cfg0.N, win0_4.index t = ![(grid0.coords t 0).val, 0] := (by decide +kernel : ∀ t : Fin grid0.N, _)
theorem i05 : ∀ t : Fin cfg0.N, win0_5.index t = ![(grid0.coords t 0).val, 0] := (by decide +kernel : ∀ t : Fin grid0.N, _)

theorem sel_block (t : Fin cfg0.N) : iblk0 V c 1 t = V c main_v10 := by
  funext i
  blk_simp [iblk0]
  congr 1
  blk_ext [i01]

theorem exp_block (t : Fin cfg0.N) : iblk0 V c 2 t = V c main_v15 := by
  funext i
  blk_simp [iblk0]
  congr 1
  blk_ext [i02]

theorem row3 (t : Fin cfg0.N) (y : S128x7168.Idx) :
    rowOf (iblk0 V c 0 t) (y 0) = arow (V c main_v0) (((win0_3.blk t).view.emb y) 0) := by
  funext k
  unfold rowOf arow
  blk_simp [iblk0]
  congr 1
  blk_ext [i00, i03]
  show _ = (((win0_3.blk t).view.emb y) 0).val
  blk_simp [i03]

theorem row4 (t : Fin cfg0.N) (y : S128x224.Idx) :
    rowOf (iblk0 V c 0 t) (y 0) = arow (V c main_v0) (((win0_4.blk t).view.emb y) 0) := by
  funext k
  unfold rowOf arow
  blk_simp [iblk0]
  congr 1
  blk_ext [i00, i04]
  show _ = (((win0_4.blk t).view.emb y) 0).val
  blk_simp [i04]

theorem row5 (t : Fin cfg0.N) (y : S128x7168.Idx) :
    rowOf (iblk0 V c 0 t) (y 0) = arow (V c main_v0) (((win0_5.blk t).view.emb y) 0) := by
  funext k
  unfold rowOf arow
  blk_simp [iblk0]
  congr 1
  blk_ext [i00, i05]
  show _ = (((win0_5.blk t).view.emb y) 0).val
  blk_simp [i05]

theorem col3 (t : Fin cfg0.N) (y : S128x7168.Idx) : ((win0_3.blk t).view.emb y) 1 = y 1 := by
  apply Fin.ext
  blk_simp [i03]
theorem col4 (t : Fin cfg0.N) (y : S128x224.Idx) : ((win0_4.blk t).view.emb y) 1 = y 1 := by
  apply Fin.ext
  blk_simp [i04]
theorem col5 (t : Fin cfg0.N) (y : S128x7168.Idx) : ((win0_5.blk t).view.emb y) 1 = y 1 := by
  apply Fin.ext
  blk_simp [i05]

/-- The codes the first kernel leaves. -/
theorem codes (hs : IsSel (V c main_v10)) (he : IsExp (V c main_v15)) :
    (dat0 V c).arrAt 3 cfg0.N = codesArr (V c main_v0) := by
  refine (dat0 V c).arrAt_eq_of_covers 3 _ (by decide +kernel) fun t hf y => ?_
  blk_simp
  rw [after0_3]
  unfold outsAt0
  dsimp only
  rw [out3_eq, sel_block, exp_block]
  refine (congrArg (qCodes _ _ _) (eta y)).trans ?_
  refine (qCodes_apply _ _ _ hs he _ _).trans ?_
  unfold codesArr
  rw [row3, col3]

/-- The scale bytes the first kernel leaves. -/
theorem bytes (hs : IsSel (V c main_v10)) :
    (dat0 V c).arrAt 4 cfg0.N = bytesArr (V c main_v0) := by
  refine (dat0 V c).arrAt_eq_of_covers 4 _ (by decide +kernel) fun t hf y => ?_
  blk_simp
  rw [after0_4]
  unfold outsAt0
  dsimp only
  rw [out4_eq, sel_block]
  refine (congrArg (qBytes _ _) (eta y)).trans ?_
  refine (qBytes_apply _ _ hs _ _).trans ?_
  unfold bytesArr
  rw [row4, col4]

/-- The scaled-back activations the first kernel leaves. -/
theorem deq (hs : IsSel (V c main_v10)) (he : IsExp (V c main_v15)) :
    (dat0 V c).arrAt 5 cfg0.N = deqArr (V c main_v0) := by
  refine (dat0 V c).arrAt_eq_of_covers 5 _ (by decide +kernel) fun t hf y => ?_
  blk_simp
  rw [after0_5]
  unfold outsAt0
  dsimp only
  rw [out5_eq, sel_block, exp_block]
  refine (congrArg (qDeq _ _ _) (eta y)).trans ?_
  refine (qDeq_apply _ _ _ hs he _ _).trans ?_
  unfold deqArr
  rw [row5, col5]

/-! ## The second kernel -/

theorem i10 : ∀ t : Fin cfg1.N, win1_0.index t = ![(grid1.coords t 0).val, 0] := (by decide +kernel : ∀ t : Fin grid1.N, _)
theorem i11 : ∀ t : Fin cfg1.N, win1_1.index t = ![(grid1.coords t 0).val, 0] := (by decide +kernel : ∀ t : Fin grid1.N, _)
theorem i12 : ∀ t : Fin cfg1.N, win1_2.index t = ![0, 0] := (by decide +kernel : ∀ t : Fin grid1.N, _)
theorem i13 : ∀ t : Fin cfg1.N, win1_3.index t = ![(grid1.coords t 0).val, 0] := (by decide +kernel : ∀ t : Fin grid1.N, _)

theorem exp_block1 (t : Fin cfg1.N) : iblk1 V c 2 t = V c main_v15 := by
  funext i
  blk_simp [iblk1]
  congr 1
  blk_ext [i12]

/-- The scaled-back weights the second kernel leaves. -/
theorem weights (he : IsExp (V c main_v15)) :
    (dat1 V c).arrAt 3 cfg1.N = wArr (V c main_arg1) (V c main_arg2) := by
  refine (dat1 V c).arrAt_eq_of_covers 3 _ (by decide +kernel) fun t hf y => ?_
  blk_simp
  rw [after1_3]
  unfold out1_3
  rw [View.canon_unit_zero zeros, exp_block1]
  simp only [View.ld_unit_zero (S := S128x7168) zeros, View.ld_unit_zero (S := S128x224) zeros, View.ld_unit_zero (S := S224x7168) zeros]
  refine (congrArg (k1_pay1 _ _ _) (eta y)).trans ?_
  refine (wBlock_apply _ _ he _ _ _).trans ?_
  unfold wArr
  refine congrArg₂ (fun (a : EReal) (b : BitVec 8) => a * pw (BitVec.setWidth 32 b)) ?_ ?_
  · blk_simp [iblk1]
    congr 1
    blk_ext [i10, i13]
  · have e : ((win1_3.blk t).view.emb y) 1 = y 1 := by
      apply Fin.ext
      blk_simp [i13]
    rw [e]
    blk_simp [iblk1]
    congr 1
    blk_ext [i11, i13]
    show _ = (((win1_3.blk t).view.emb y) 0).val
    blk_simp [i13]

/-! ## The third kernel -/

theorem i20 : ∀ t : Fin cfg2.N, win2_0.index t = ![(grid2.coords t 0).val, 0] := (by decide +kernel : ∀ t : Fin grid2.N, _)
theorem i21 : ∀ t : Fin cfg2.N, win2_1.index t = ![(grid2.coords t 1).val, 0] := (by decide +kernel : ∀ t : Fin grid2.N, _)
theorem i22 : ∀ t : Fin cfg2.N, win2_2.index t = ![0, (grid2.coords t 1).val] := (by decide +kernel : ∀ t : Fin grid2.N, _)
theorem i23 : ∀ t : Fin cfg2.N, win2_3.index t = ![(grid2.coords t 0).val, (grid2.coords t 1).val] := (by decide +kernel : ∀ t : Fin grid2.N, _)

theorem bias_block (t : Fin cfg2.N) (y : S1024x512.Idx) :
    iblk2 V c 2 t (ix2 (0 : Fin 1) (y 1)) = V c main_v18 (ix2 (0 : Fin 1) (((win2_3.blk t).view.emb y) 1)) := by
  show V c main_v18 ((win2_2.blk t).view.emb (ix2 (0 : Fin 1) (y 1))) = _
  congr 1
  blk_ext [i22, i23]
  show _ = (((win2_3.blk t).view.emb y) 1).val
  blk_simp [i23]

/-- The product with its bias, as the third kernel leaves it. -/
theorem product : (dat2 V c).arrAt 3 cfg2.N = yArr (V c main_v16_2) (V c main_v17) (V c main_v18) := by
  refine (dat2 V c).arrAt_eq_of_covers 3 _ (by decide +kernel) fun t hf y => ?_
  blk_simp
  rw [after2_3]
  unfold out2_3
  rw [View.canon_unit_zero zeros]
  simp only [View.ld_unit_zero (S := S1024x7168) zeros, View.ld_unit_zero (S := S512x7168) zeros, View.ld_unit_zero (S := S1x512) zeros]
  refine (congrArg (k2_pay1 _ _ _) (eta y)).trans ?_
  refine (yBlock_apply _ _ _ _ _).trans ?_
  unfold yArr
  refine congrArg₂ (fun (a b : EReal) => a + b) (Finset.sum_congr rfl fun k _ => congrArg₂ (fun (a b : EReal) => a * b) ?_ ?_) ?_
  · blk_simp [iblk2]
    congr 1
    blk_ext [i20, i23]
    show _ = (((win2_3.blk t).view.emb y) 0).val
    blk_simp [i23]
  · blk_simp [iblk2]
    congr 1
    blk_ext [i21, i23]
    show _ = (((win2_3.blk t).view.emb y) 1).val
    blk_simp [i23]
  · exact bias_block V c t y

end Cert.Arrays
-- ==== Proof.HostValues.lean ====
module
public import proofs.«01_k».proof.Proof.Arrays
public import Idealize.ShloMosaic.Lib.StableHlo.RunRead
public import Idealize.ShloMosaic.Lib.Claim
@[expose] public section
set_option maxRecDepth 16384
/-!
# What the host program hands to the kernels

The activations as a matrix, the two constant matrices of zeros and ones (one picks the last column of each group, one repeats
each group's entry over its columns), and the bias as a row.
-/
noncomputable section
namespace Cert.HostValues
open Cert.KernelIdeal Cert.KernelIdeal.Gen Cert.QuantBlock Cert.Exponent Cert.BlockValue Cert.Arrays
open Idealize.ShloMosaic hiding ix1 ix2 ix3
open Idealize.ShloMosaic.TcCoe Idealize.ShloMosaic.ValueIdx
open Idealize.ShloMosaic.Pipeline

variable (m : (ℓ : Loc nD τ sig) → Buf (Elt Ideal) ℓ) (ρ : Dev nD → PrngReg) (c : Dev nD)

/-- The activations as a matrix of 8192 rows. -/
def x2 : Vec Ideal S8192x7168 .bf16 :=
  shapeCast S8192x7168 (m ((c : Thread nD τ).loc main_arg0) : Vec Ideal S4x2048x7168 .bf16) shapeCasts_S4x2048x7168_S8192x7168

theorem x2_eq : V3 m ρ c main_v0 = x2 m c := by
  refine (W3_of m ρ c main_v0 (by decide)).trans ((W2_of m ρ c main_v0 (by decide)).trans ?_)
  show StableHlo.after hostOps0 (W0 m ρ c) (Proc.devRef .tc main_v0) = _
  after_results_simp
  rfl

/-- The number of column `k` of group `g`'s last column, as 32-bit words: one where they are equal. -/
def selV : Vec Ideal S7168x224 .bf16 :=
  (uitofp .bf16 (cmpi .eq (iotaInDim S7168x224 32 0)
    (subi (addi (muli (iotaInDim S7168x224 32 1) (broadcastInDim S7168x224 ![] bcast_S_S7168x224 (constantI S_ 32 32#32)))
      (broadcastInDim S7168x224 ![] bcast_S_S7168x224 (constantI S_ 32 32#32)))
      (broadcastInDim S7168x224 ![] bcast_S_S7168x224 (constantI S_ 32 1#32)))) : FVec Ideal S7168x224 .bf16)

theorem sel_eq : V3 m ρ c main_v10 = selV := by
  refine (W3_of m ρ c main_v10 (by decide)).trans ((W2_of m ρ c main_v10 (by decide)).trans ?_)
  show StableHlo.after hostOps0 (W0 m ρ c) (Proc.devRef .tc main_v10) = _
  after_results_simp
  rfl

/-- Each column's number divided by 32, rounded down. -/
def divV : IVec S224x7168 32 :=
  select (andi (cmpi .ne (signi (iotaInDim S224x7168 32 1)) (broadcastInDim S224x7168 ![] bcast_S_S224x7168 (signi (constantI S_ 32 32#32))))
      (cmpi .ne (Host.remsi (iotaInDim S224x7168 32 1) (broadcastInDim S224x7168 ![] bcast_S_S224x7168 (constantI S_ 32 32#32)))
        (broadcastInDim S224x7168 ![] bcast_S_S224x7168 (constantI S_ 32 0#32))))
    (subi (Host.divsi (iotaInDim S224x7168 32 1) (broadcastInDim S224x7168 ![] bcast_S_S224x7168 (constantI S_ 32 32#32)))
      (broadcastInDim S224x7168 ![] bcast_S_S224x7168 (constantI S_ 32 1#32)))
    (Host.divsi (iotaInDim S224x7168 32 1) (broadcastInDim S224x7168 ![] bcast_S_S224x7168 (constantI S_ 32 32#32)))

def expV : Vec Ideal S224x7168 .bf16 :=
  (uitofp .bf16 (cmpi .eq divV (iotaInDim S224x7168 32 0)) : FVec Ideal S224x7168 .bf16)

theorem exp_eq : V3 m ρ c main_v15 = expV := by
  show StableHlo.after hostOps0_2 (W2 m ρ c) (Proc.devRef .tc main_v15) = _
  after_results_simp
  simp only [StableHlo.TRef.ofBuf_toBuf]
  rfl

theorem flag (p : Bool) : (FloatOps.uitofp (F := Ideal) .bf16 (BitVec.ofBool p) : EReal) = if p then (1 : EReal) else 0 := by
  cases p
  · show (((0 : ℕ) : ℝ) : EReal) = _
    simp
  · show (((1 : ℕ) : ℝ) : EReal) = _
    simp

theorem isSel : IsSel (V3 m ρ c main_v10) := by
  rw [sel_eq]
  intro k g
  have e : selV (ix2 k g) = (FloatOps.uitofp (F := Ideal) .bf16 (BitVec.ofBool
      (BitVec.ofNat 32 k.val == BitVec.ofNat 32 g.val * 32#32 + 32#32 - 1#32)) : EReal) := by
    unfold selV
    rfl
  rw [e, flag]
  have h1 := k.isLt
  have h2 := g.isLt
  refine if_congr ?_ rfl rfl
  rw [beq_iff_eq]
  constructor
  · intro h
    apply Fin.ext
    have h' := congrArg BitVec.toNat h
    simp only [BitVec.toNat_sub, BitVec.toNat_add, BitVec.toNat_mul, BitVec.toNat_ofNat] at h'
    show k.val = 32 * g.val + 31
    omega
  · intro h
    have hv : k.val = 32 * g.val + 31 := congrArg Fin.val h
    apply BitVec.eq_of_toNat_eq
    simp only [BitVec.toNat_sub, BitVec.toNat_add, BitVec.toNat_mul, BitVec.toNat_ofNat]
    omega

/-- The host's rounded-down division by 32, on one word. -/
def fdivW (a : BitVec 32) : BitVec 32 :=
  Scalar.select (IntOp.andi (IntOp.cmpi .ne (if a = 0 then (0 : BitVec 32) else if a.msb then (-1 : BitVec 32) else (1 : BitVec 32))
        (if (32#32 : BitVec 32) = 0 then (0 : BitVec 32) else if (32#32 : BitVec 32).msb then (-1 : BitVec 32) else (1 : BitVec 32)))
      (IntOp.cmpi .ne (IntOp.remsi .host a 32#32) 0#32))
    (IntOp.subi (IntOp.divsi .host a 32#32) 1#32) (IntOp.divsi .host a 32#32)

theorem fdivW_eq (k : ℕ) (h : k < 7168) : fdivW (BitVec.ofNat 32 k) = BitVec.ofNat 32 (k / 32) := by
  have hm : (BitVec.ofNat 32 k).msb = false := by
    rw [BitVec.msb_eq_false_iff_two_mul_lt, BitVec.toNat_ofNat]; omega
  have hd : IntOp.divsi .host (BitVec.ofNat 32 k) 32#32 = BitVec.ofNat 32 (k / 32) := by
    unfold IntOp.divsi
    rw [if_neg (by unfold IntOp.SDivCorner; simp), BitVec.sdiv_eq, hm, show (32#32 : BitVec 32).msb = false by decide]
    apply BitVec.eq_of_toNat_eq
    show (BitVec.ofNat 32 k / 32#32).toNat = _
    rw [BitVec.toNat_udiv]
    simp only [BitVec.toNat_ofNat]
    rw [show (32 % 2 ^ 32 : ℕ) = 32 from rfl]
    omega
  unfold fdivW
  rw [hd]
  by_cases h0 : k = 0
  · subst h0; decide
  · have hne : ¬ BitVec.ofNat 32 k = 0 := by
      intro e
      have := congrArg BitVec.toNat e
      simp at this
      omega
    rw [if_neg hne, hm]
    have : (IntOp.cmpi .ne (if false = true then (-1 : BitVec 32) else (1 : BitVec 32))
        (if (32#32 : BitVec 32) = 0 then (0 : BitVec 32) else if (32#32 : BitVec 32).msb then (-1 : BitVec 32) else (1 : BitVec 32))) = 0#1 := by decide
    rw [this]
    have z : ∀ b : BitVec 1, IntOp.andi 0#1 b = 0#1 := by decide
    rw [z]
    rfl

theorem isExp : IsExp (V3 m ρ c main_v15) := by
  rw [exp_eq]
  intro g k
  have e : expV (ix2 g k) = (FloatOps.uitofp (F := Ideal) .bf16 (BitVec.ofBool
      (fdivW (BitVec.ofNat 32 k.val) == BitVec.ofNat 32 g.val)) : EReal) := by
    unfold expV divV fdivW
    rfl
  rw [e, flag, fdivW_eq _ k.isLt]
  have h1 := k.isLt
  have h2 := g.isLt
  refine if_congr ?_ rfl rfl
  rw [beq_iff_eq]
  constructor
  · intro h
    apply Fin.ext
    have h' := congrArg BitVec.toNat h
    simp only [BitVec.toNat_ofNat] at h'
    show g.val = k.val / 32
    omega
  · intro h
    have hv : g.val = k.val / 32 := congrArg Fin.val h
    rw [hv]

/-! ## The arrays at each kernel's entry and at the end -/

theorem exp_V4 : V4 m ρ c main_v15 = V3 m ρ c main_v15 := W4_of m ρ c main_v15 (by decide +kernel)

/-- The scaled-back weights, of the arguments. -/
theorem w_eq : V5 m ρ c main_v17 = wArr (m ((c : Thread nD τ).loc main_arg1)) (m ((c : Thread nD τ).loc main_arg2)) := by
  have h := weights (V4 m ρ) c (by rw [exp_V4]; exact isExp m ρ c)
  refine (W5_arr m ρ c 3).trans (h.trans ?_)
  exact congrArg₂ wArr (W4_args m ρ c main_arg1 (by decide)) (W4_args m ρ c main_arg2 (by decide))

/-- The scaled-back activations, of the arguments. -/
theorem deq_eq : V4 m ρ c main_v16_2 = deqArr (x2 m c) := by
  refine (W4_arr m ρ c 5).trans ((deq (V3 m ρ) c (isSel m ρ c) (isExp m ρ c)).trans ?_)
  rw [x2_eq]

theorem codes_eq : V4 m ρ c main_v16_0 = codesArr (x2 m c) := by
  refine (W4_arr m ρ c 3).trans ((codes (V3 m ρ) c (isSel m ρ c) (isExp m ρ c)).trans ?_)
  rw [x2_eq]

theorem bytes_eq : V4 m ρ c main_v16_1 = bytesArr (x2 m c) := by
  refine (W4_arr m ρ c 4).trans ((bytes (V3 m ρ) c (isSel m ρ c)).trans ?_)
  rw [x2_eq]

/-- The bias as a row. -/
def biasRow : Vec Ideal S1x12288 .f32 :=
  shapeCast S1x12288 (m ((c : Thread nD τ).loc main_arg3) : Vec Ideal S12288 .f32) shapeCasts_S12288_S1x12288

theorem bias_eq : V6 m ρ c main_v18 = biasRow m c := by
  have h : V6 m ρ c main_v18 = (shapeCast S1x12288 (W5 m ρ c (Proc.devRef .tc main_arg3) : Vec Ideal S12288 .f32) shapeCasts_S12288_S1x12288 : Vec Ideal S1x12288 .f32) := by
    show StableHlo.after hostOps2 (W5 m ρ c) (Proc.devRef .tc main_v18) = _
    after_results_simp
    rfl
  rw [h, W5_args m ρ c main_arg3 (by decide)]
  rfl

/-- The product with its bias, of the arguments. -/
theorem y_eq : V7 m ρ c main_v19 = yArr (deqArr (x2 m c))
    (wArr (m ((c : Thread nD τ).loc main_arg1)) (m ((c : Thread nD τ).loc main_arg2))) (biasRow m c) := by
  refine (W7_arr m ρ c 3).trans ((product (V6 m ρ) c).trans ?_)
  have h1 : V6 m ρ c main_v16_2 = deqArr (x2 m c) :=
    (W6_of m ρ c main_v16_2 (by decide)).trans ((W5_of m ρ c main_v16_2 (by decide +kernel)).trans (deq_eq m ρ c))
  have h2 : V6 m ρ c main_v17 = _ := (W6_of m ρ c main_v17 (by decide)).trans (w_eq m ρ c)
  rw [h1, h2, bias_eq]

/-- The first result: the product, split into batches. -/
theorem out0 : W8 m ρ c (Proc.devRef .tc main_v20) = (shapeCast S4x2048x12288 (yArr (deqArr (x2 m c))
    (wArr (m ((c : Thread nD τ).loc main_arg1)) (m ((c : Thread nD τ).loc main_arg2))) (biasRow m c)) shapeCasts_S8192x12288_S4x2048x12288 : Vec Ideal S4x2048x12288 .bf16) := by
  have h : W8 m ρ c (Proc.devRef .tc main_v20) = (shapeCast S4x2048x12288 (W7 m ρ c (Proc.devRef .tc main_v19) : Vec Ideal S8192x12288 .bf16) shapeCasts_S8192x12288_S4x2048x12288 : Vec Ideal S4x2048x12288 .bf16) := by
    show StableHlo.after hostOps3 (W7 m ρ c) (Proc.devRef .tc main_v20) = _
    after_results_simp
    rfl
  exact h.trans (congrArg (fun z : Vec Ideal S8192x12288 .bf16 => shapeCast S4x2048x12288 z shapeCasts_S8192x12288_S4x2048x12288) (y_eq m ρ c))

/-- The second result: the codes, split into batches. -/
theorem out1 : W8 m ρ c (Proc.devRef .tc main_v21) = (shapeCast S4x2048x7168 (codesArr (x2 m c)) shapeCasts_S8192x7168_S4x2048x7168 : Vec Ideal S4x2048x7168 .fp8e4m3) := by
  have h : W8 m ρ c (Proc.devRef .tc main_v21) = (shapeCast S4x2048x7168 (W7 m ρ c (Proc.devRef .tc main_v16_0) : Vec Ideal S8192x7168 .fp8e4m3) shapeCasts_S8192x7168_S4x2048x7168 : Vec Ideal S4x2048x7168 .fp8e4m3) := by
    show StableHlo.after hostOps3 (W7 m ρ c) (Proc.devRef .tc main_v21) = _
    after_results_simp
    rfl
  have h1 : W7 m ρ c (Proc.devRef .tc main_v16_0) = codesArr (x2 m c) :=
    (W7_of m ρ c main_v16_0 (by decide +kernel)).trans ((W6_of m ρ c main_v16_0 (by decide)).trans
      ((W5_of m ρ c main_v16_0 (by decide +kernel)).trans (codes_eq m ρ c)))
  exact h.trans (congrArg (fun z : Vec Ideal S8192x7168 .fp8e4m3 => shapeCast S4x2048x7168 z shapeCasts_S8192x7168_S4x2048x7168) h1)

/-- The third result: the scale bytes, split into batches. -/
theorem out2 : W8 m ρ c (Proc.devRef .tc main_v22) = (shapeCast S4x2048x224 (bytesArr (x2 m c)) shapeCasts_S8192x224_S4x2048x224 : Vec Ideal S4x2048x224 .i8) := by
  have h : W8 m ρ c (Proc.devRef .tc main_v22) = (shapeCast S4x2048x224 (W7 m ρ c (Proc.devRef .tc main_v16_1) : Vec Ideal S8192x224 .i8) shapeCasts_S8192x224_S4x2048x224 : Vec Ideal S4x2048x224 .i8) := by
    show StableHlo.after hostOps3 (W7 m ρ c) (Proc.devRef .tc main_v22) = _
    after_results_simp
    rfl
  have h1 : W7 m ρ c (Proc.devRef .tc main_v16_1) = bytesArr (x2 m c) :=
    (W7_of m ρ c main_v16_1 (by decide +kernel)).trans ((W6_of m ρ c main_v16_1 (by decide)).trans
      ((W5_of m ρ c main_v16_1 (by decide +kernel)).trans (bytes_eq m ρ c)))
  exact h.trans (congrArg (fun z : Vec Ideal S8192x224 .i8 => shapeCast S4x2048x224 z shapeCasts_S8192x224_S4x2048x224) h1)

end Cert.HostValues
-- ==== Proof.RefRun.lean ====
/-
What the reference leaves in its three results. The reference is one kernel body without a grid: its one point reads the four
argument arrays whole and writes each result whole, so each result array after the run is the body's stored value of the
argument arrays (`G4` the product, `G5` the codes, `G6` the scales).
-/
module

public import proofs.«01_k».proof.Proof.Gen.ReferenceIdeal.Frame
public import Idealize.ShloMosaic.Lib.Pipeline.Value

@[expose] public section

noncomputable section

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x2048x7168.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 2048 + 1 * (j 1).val = (j 1).val; omega
  | ⟨2, _⟩ => show win0_0.index t (2 : Fin 3) * 7168 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S12288x7168.Idx) : ((cfg0.win 1).blk t).view.emb j = j := by
  obtain ⟨e0, e1⟩ := idx_zero1 t
  funext a; apply Fin.ext
  match a with
  | ⟨0, _⟩ => show win0_1.index t (0 : Fin 2) * 12288 + 1 * (j 0).val = (j 0).val; omega
  | ⟨1, _⟩ => show win0_1.index t (1 : Fin 2) * 7168 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S12288x224.Idx) : ((cfg0.win 2).blk t).view.emb j = j := by
  obtain ⟨e0, e1⟩ := idx_zero2 t
  funext a; apply Fin.ext
  match a with
  | ⟨0, _⟩ => show win0_2.index t (0 : Fin 2) * 12288 + 1 * (j 0).val = (j 0).val; omega
  | ⟨1, _⟩ => show win0_2.index t (1 : Fin 2) * 224 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S12288.Idx) : ((cfg0.win 3).blk t).view.emb j = j := by
  have e0 := idx_zero3 t
  funext a; apply Fin.ext
  match a with
  | ⟨0, _⟩ => show win0_3.index t (0 : Fin 1) * 12288 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x2048x12288.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 2048 + 1 * (j 1).val = (j 1).val; omega
  | ⟨2, _⟩ => show win0_4.index t (2 : Fin 3) * 12288 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x2048x7168.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 2048 + 1 * (j 1).val = (j 1).val; omega
  | ⟨2, _⟩ => show win0_5.index t (2 : Fin 3) * 7168 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x2048x224.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 2048 + 1 * (j 1).val = (j 1).val; omega
  | ⟨2, _⟩ => show win0_6.index t (2 : Fin 3) * 224 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S4x2048x7168 .bf16) (a1 : Vec F S12288x7168 .fp8e4m3) (a2 : Vec F S12288x224 .i8) (a3 : Vec F S12288 .f32) : Vec F S4x2048x12288 .bf16 :=
  k0_pay1 (k0_pay9 (k0_pay11 a0 a1 a2 a3) (k0_pay12 a0 a1 a2 a3) (Scalar.ofBits .f32 0xC3E00000#32) a1) (k0_pay10 a2) a3

/-- A load of the whole of a block reads the block, and the one store through the whole rectangle leaves its payload. -/
theorem out4_eq (a0 : Vec F S4x2048x7168 .bf16) (a1 : Vec F S12288x7168 .fp8e4m3) (a2 : Vec F S12288x224 .i8) (a3 : Vec F S12288 .f32) : out0_4 (F := F) a0 a1 a2 a3 = G4 a0 a1 a2 a3 := by
  unfold out0_4
  rw [View.canon_unit_zero hz4, View.ld_unit_zero (S := S12288x7168) hz1 _ a1, View.ld_unit_zero (S := S12288x224) hz2 _ a2, View.ld_unit_zero (S := S12288) hz3 _ a3]

/-- Cutting the point's block out of `X` and reading `X` through the block's view give the same. -/
theorem cut4_eq (t : Fin cfg0.N) (X : Vec F S4x2048x12288 .bf16) :
    (cfg0.win 4).cut (grid0.coords t) X = ((cfg0.win 4).blk t).view.read (Elt F) X := by
  funext j
  show X j = X (((cfg0.win 4).blk t).view.emb j)
  rw [emb4]

/-- What the point writes back is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S4x2048x12288.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- The array after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S4x2048x7168 .bf16) (a1 : Vec F S12288x7168 .fp8e4m3) (a2 : Vec F S12288x224 .i8) (a3 : Vec F S12288 .f32) : Vec F S4x2048x7168 .fp8e4m3 :=
  k0_pay7 (k0_pay12 a0 a1 a2 a3) (Scalar.ofBits .f32 0xC3E00000#32)

/-- The one store through the whole rectangle leaves its payload. -/
theorem out5_eq (a0 : Vec F S4x2048x7168 .bf16) (a1 : Vec F S12288x7168 .fp8e4m3) (a2 : Vec F S12288x224 .i8) (a3 : Vec F S12288 .f32) : out0_5 (F := F) a0 a1 a2 a3 = G5 a0 a1 a2 a3 := by
  unfold out0_5
  rw [View.canon_unit_zero hz5]

/-- Cutting the point's block out of `X` and reading `X` through the block's view give the same. -/
theorem cut5_eq (t : Fin cfg0.N) (X : Vec F S4x2048x7168 .fp8e4m3) :
    (cfg0.win 5).cut (grid0.coords t) X = ((cfg0.win 5).blk t).view.read (Elt F) X := by
  funext j
  show X j = X (((cfg0.win 5).blk t).view.emb j)
  rw [emb5]

/-- What the point writes back is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S4x2048x7168.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- The array after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S4x2048x7168 .bf16) (a1 : Vec F S12288x7168 .fp8e4m3) (a2 : Vec F S12288x224 .i8) (a3 : Vec F S12288 .f32) : Vec F S4x2048x224 .i8 :=
  k0_pay8 (k0_pay11 a0 a1 a2 a3)

/-- The one store through the whole rectangle leaves its payload. -/
theorem out6_eq (a0 : Vec F S4x2048x7168 .bf16) (a1 : Vec F S12288x7168 .fp8e4m3) (a2 : Vec F S12288x224 .i8) (a3 : Vec F S12288 .f32) : out0_6 (F := F) a0 a1 a2 a3 = G6 a0 a1 a2 a3 := by
  unfold out0_6
  rw [View.canon_unit_zero hz6]

/-- Cutting the point's block out of `X` and reading `X` through the block's view give the same. -/
theorem cut6_eq (t : Fin cfg0.N) (X : Vec F S4x2048x224 .i8) :
    (cfg0.win 6).cut (grid0.coords t) X = ((cfg0.win 6).blk t).view.read (Elt F) X := by
  funext j
  show X j = X (((cfg0.win 6).blk t).view.emb j)
  rw [emb6]

/-- What the point writes back is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S4x2048x224.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- The array after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.RefRun

end
-- ==== Proof.RefValue.lean ====
module
public import proofs.«01_k».proof.Proof.RefRun
public import proofs.«01_k».proof.Proof.Arrays
public import Idealize.ShloMosaic.Lib.Pointwise.Contract
public import Idealize.ShloMosaic.Lib.Pointwise.Reduce
@[expose] public section
set_option maxRecDepth 16384
/-!
# The reference, element by element

Every array the reference computes is read at an index: the exponents, the codes, the scale bytes, and the product summed group
by group.
-/
noncomputable section
namespace Cert.RefValue
open Cert.ReferenceIdeal Cert.ReferenceIdeal.Gen Cert.Exponent
open Cert.BlockValue (lane grp amax code clip)
open Idealize.ShloMosaic hiding ix1 ix2 ix3
open Idealize.ShloMosaic.TcCoe Idealize.ShloMosaic.ValueIdx

/-- Row `R` of the activations, `R` counting through the batches. -/
def xrow (x : Vec Ideal S4x2048x7168 .bf16) (R : Fin 8192) : Fin 7168 → EReal := fun k =>
  x (ix3 (⟨R.val / 2048, by have := R.isLt; omega⟩ : Fin 4) (⟨R.val % 2048, by omega⟩ : Fin 2048) k)

theorem pay2_apply (x : Vec Ideal S4x2048x7168 .bf16) (R : Fin 8192) (g : Fin 224) (j : Fin 32) :
    (k0_pay2 x (ix3 R g j) : EReal) = xrow x R (lane g j) := by
  unfold k0_pay2 xrow
  have h := shapeCast_apply (extf .f32 (x : FVec Ideal S4x2048x7168 .bf16) bitsLt_bf16_f32 : FVec Ideal S4x2048x7168 .f32) shapeCasts_S4x2048x7168_S8192x224x32 (ix3 R g j)
    (ix3 (⟨R.val / 2048, by have := R.isLt; omega⟩ : Fin 4) (⟨R.val % 2048, by omega⟩ : Fin 2048) (lane g j)) (by
      rw [Shape.rowMajor_val_three, Shape.rowMajor_val_three]
      show (R.val / 2048 * 2048 + R.val % 2048) * 7168 + (32 * g.val + j.val) = (R.val * 224 + g.val) * 32 + j.val
      omega)
  exact h

theorem fold_max (f : Fin 32 → EReal) :
    (Finset.univ : Finset (Fin 32)).fold (FloatOps.maximumf (F := Ideal) (φ := .f32)) (Ideal.ofBits .f32 0xFF800000#32) f = (Finset.univ : Finset (Fin 32)).sup f := by
  have e : (Ideal.ofBits .f32 0xFF800000#32 : EReal) = ⊥ := by simp [Ideal.ofBits, Ideal.ieee]
  rw [e]
  rfl

theorem max_apply (x : Vec Ideal S4x2048x7168 .bf16) (R : Fin 8192) (g : Fin 224) :
    (multiReduction (F := Ideal) .maximumf [2] S8192x224 (absf (k0_pay2 x)) 0xFF800000#32 reduces_S8192x224x32_S8192x224 (.inl rfl) rfl (ix2 R g) : EReal)
      = amax (xrow x R) g := by
  refine (multiReduction_maximumf_eq_fold (F := Ideal) (absf (k0_pay2 x)) 0xFF800000#32 reduces_S8192x224x32_S8192x224 (.inl rfl) rfl (ix2 R g)).trans ?_
  rw [Shape.Reduces.fold_fiber_r3_a2]
  refine (fold_max _).trans ?_
  unfold amax
  refine Finset.sup_congr rfl fun j _ => ?_
  rw [← pay2_apply]
  rfl

theorem count_apply (v : IVec S8192x224x254 32) (R : Fin 8192) (g : Fin 224) :
    multiReductionI .add [2] S8192x224 v 0#32 reduces_S8192x224x254_S8192x224 rfl (ix2 R g)
      = (Finset.univ : Finset (Fin 254)).fold IntOp.addi 0#32 fun j => v (ix3 R g j) := by
  refine (multiReductionI_eq_fold .add v 0#32 reduces_S8192x224x254_S8192x224 rfl (ix2 R g)).trans ?_
  rw [Shape.Reduces.fold_fiber_r3_a2]
  rfl

/-- A group's quantity repeated over a last axis. -/
theorem spread32 (v : FVec Ideal S8192x224 .f32) (R : Fin 8192) (g : Fin 224) (j : Fin 32) :
    broadcastTo S8192x224x32 (shapeCast S8192x224x1 v shapeCasts_S8192x224_S8192x224x1) broadcasts_S8192x224x1_S8192x224x32 (ix3 R g j) = v (ix2 R g) := by
  rw [broadcastTo_apply _ _ _ (ix3 R g (0 : Fin 1)) (by
    intro a
    match a with
    | 0 => rfl
    | 1 => rfl
    | 2 => rfl)]
  refine shapeCast_apply _ _ _ _ ?_
  rw [Shape.rowMajor_val_three, Shape.rowMajor_val_two]
  show R.val * 224 + g.val = (R.val * 224 + g.val) * 1 + 0
  omega

theorem spread254 (v : FVec Ideal S8192x224 .f32) (R : Fin 8192) (g : Fin 224) (j : Fin 254) :
    broadcastTo S8192x224x254 (shapeCast S8192x224x1 v shapeCasts_S8192x224_S8192x224x1) broadcasts_S8192x224x1_S8192x224x254 (ix3 R g j) = v (ix2 R g) := by
  rw [broadcastTo_apply _ _ _ (ix3 R g (0 : Fin 1)) (by
    intro a
    match a with
    | 0 => rfl
    | 1 => rfl
    | 2 => rfl)]
  refine shapeCast_apply _ _ _ _ ?_
  rw [Shape.rowMajor_val_three, Shape.rowMajor_val_two]
  show R.val * 224 + g.val = (R.val * 224 + g.val) * 1 + 0
  omega

/-- The flush of small numbers to zero, on a whole array. -/
def vfl {s : Shape} (v : FVec Ideal s .f32) : FVec Ideal s .f32 :=
  select (cmpf .olt v (broadcast s (Scalar.ofBits .f32 0x00800000#32))) (broadcast s (Scalar.ofBits .f32 0x00000000#32)) v

theorem vfl_apply {s : Shape} (v : FVec Ideal s .f32) (i : s.Idx) : vfl v i = fl (v i) := rfl

/-- The quotient by 448, flushed. -/
def tV (x : Vec Ideal S4x2048x7168 .bf16) : FVec Ideal S8192x224 .f32 :=
  vfl (mulf (multiReduction (F := Ideal) .maximumf [2] S8192x224 (absf (k0_pay2 x)) 0xFF800000#32 reduces_S8192x224x32_S8192x224 (.inl rfl) rfl)
    (broadcast S8192x224 (Scalar.ofBits .f32 0x3B124925#32)))

theorem tV_apply (x : Vec Ideal S4x2048x7168 .bf16) (R : Fin 8192) (g : Fin 224) :
    (tV x (ix2 R g) : EReal) = fl (amax (xrow x R) g * Ideal.ofBits .f32 0x3B124925#32) := by
  unfold tV
  rw [vfl_apply, ← max_apply]
  exact congrArg fl (ValueIdx.mulf_apply _ _ _)

/-- The powers of two not above the quotient, marked. -/
def marks (t : FVec Ideal S8192x224 .f32) : IVec S8192x224x254 32 :=
  extui 32 (cmpf .oge (broadcastTo S8192x224x254 (shapeCast S8192x224x1 t shapeCasts_S8192x224_S8192x224x1) broadcasts_S8192x224x1_S8192x224x254)
    (exp2 (sitofp .f32 (subi (iota .tc S8192x224x254 32 [2] iota_S8192x224x254_d2_w32) (broadcast S8192x224x254 126#32))) : FVec Ideal S8192x224x254 .f32)) natLt_1_32

theorem marks_apply (t : FVec Ideal S8192x224 .f32) (R : Fin 8192) (g : Fin 224) (j : Fin 254) :
    marks t (ix3 R g j) = (Ideal.cmp .oge (t (ix2 R g)) (Ideal.exp2 (((IntOp.subi (BitVec.ofNat 32 j.val) 126#32).toInt : ℝ) : EReal))).setWidth 32 := by
  rw [← spread254 t R g j]
  unfold marks
  have e : iota .tc S8192x224x254 32 [2] iota_S8192x224x254_d2_w32 (ix3 R g j) = BitVec.ofNat 32 j.val := iota_single_apply _ _ _ _ _ _
  rw [← e]
  rfl

theorem pay3_eq (x : Vec Ideal S4x2048x7168 .bf16) : k0_pay3 x =
    minsi (broadcast S8192x224 127#32) (maxsi (broadcast S8192x224 4294967169#32)
      (select (cmpf .oeq (tV x) (broadcast S8192x224 (Scalar.ofBits .f32 0x00000000#32))) (broadcast S8192x224 0#32)
        (subi (multiReductionI .add [2] S8192x224 (marks (tV x)) 0#32 reduces_S8192x224x254_S8192x224 rfl) (broadcast S8192x224 126#32)))) := by
  unfold k0_pay3 tV vfl marks
  rfl

theorem clampStep (t : FVec Ideal S8192x224 .f32) (n : IVec S8192x224 32) (i : S8192x224.Idx) :
    minsi (broadcast S8192x224 127#32) (maxsi (broadcast S8192x224 4294967169#32)
      (select (cmpf .oeq t (broadcast S8192x224 (Scalar.ofBits .f32 0x00000000#32))) (broadcast S8192x224 0#32)
        (subi n (broadcast S8192x224 126#32)))) i
    = IntOp.minsi 127#32 (IntOp.maxsi 4294967169#32
        (Scalar.select (Ideal.cmp .oeq (t i) (Ideal.ofBits .f32 0x00000000#32)) 0#32 (IntOp.subi (n i) 126#32))) := rfl

/-- The reference's exponents. -/
theorem pay3_apply (x : Vec Ideal S4x2048x7168 .bf16) (R : Fin 8192) (g : Fin 224) :
    k0_pay3 x (ix2 R g) = rexp (amax (xrow x R) g) := by
  have hc : multiReductionI .add [2] S8192x224 (marks (tV x)) 0#32 reduces_S8192x224x254_S8192x224 rfl (ix2 R g) = rcount (tV x (ix2 R g)) := by
    rw [count_apply]
    unfold rcount
    simp only [marks_apply]
  rw [pay3_eq, clampStep, hc, tV_apply]
  rfl

theorem pay4_eq (x : Vec Ideal S4x2048x7168 .bf16) : k0_pay4 x =
    mulf (k0_pay2 x) (broadcastTo S8192x224x32 (shapeCast S8192x224x1
      (vfl (exp2 (sitofp .f32 (subi (broadcast S8192x224 0#32) (k0_pay3 x))))) shapeCasts_S8192x224_S8192x224x1) broadcasts_S8192x224x1_S8192x224x32) := by
  unfold k0_pay4 vfl
  rfl

theorem invStep (e : IVec S8192x224 32) (i : S8192x224.Idx) :
    (vfl (exp2 (sitofp .f32 (subi (broadcast S8192x224 0#32) e))) i : EReal) = fl (Ideal.exp2 (((IntOp.subi 0#32 (e i)).toInt : ℝ) : EReal)) := rfl

/-- The reference's quotients. -/
theorem pay4_apply (x : Vec Ideal S4x2048x7168 .bf16) (R : Fin 8192) (g : Fin 224) (j : Fin 32) :
    (k0_pay4 x (ix3 R g j) : EReal) = xrow x R (lane g j) * kinv (amax (xrow x R) g) := by
  rw [pay4_eq]
  refine (ValueIdx.mulf_apply _ _ _).trans ?_
  rw [spread32, invStep, pay3_apply, pay2_apply, kinv_eq _ (BlockValue.amax_nonneg _ _)]

theorem grp_lane (g : Fin 224) (j : Fin 32) : grp (lane g j) = g := by
  apply Fin.ext
  show (32 * g.val + j.val) / 32 = g.val
  have := j.isLt
  omega

theorem clipStep (v : FVec Ideal S8192x224x32 .f32) (i : S8192x224x32.Idx) :
    (k0_pay5 v (Scalar.ofBits .f32 0xC3E00000#32) i : EReal) = clip (v i) := rfl

/-- The reference's codes. -/
theorem pay5_apply (x : Vec Ideal S4x2048x7168 .bf16) (R : Fin 8192) (g : Fin 224) (j : Fin 32) :
    (k0_pay5 (k0_pay4 x) (Scalar.ofBits .f32 0xC3E00000#32) (ix3 R g j) : EReal) = code (xrow x R) (lane g j) := by
  rw [clipStep, pay4_apply]
  unfold code
  rw [grp_lane]

theorem byteStep (e : IVec S8192x224 32) (i : S8192x224.Idx) : k0_pay6 e i = (IntOp.addi (e i) 127#32).setWidth 8 := rfl

/-- The reference's scale bytes. -/
theorem pay6_apply (x : Vec Ideal S4x2048x7168 .bf16) (R : Fin 8192) (g : Fin 224) :
    k0_pay6 (k0_pay3 x) (ix2 R g) = kbyte (amax (xrow x R) g) := by
  rw [byteStep, pay3_apply, ← kexp_eq_rexp _ (BlockValue.amax_nonneg _ _)]
  rfl

/-- A table's entry repeated over the columns of the product. -/
theorem spreadN (v : FVec Ideal S224x8192 .f32) (g : Fin 224) (R : Fin 8192) (N : Fin 12288) :
    broadcastTo S224x8192x12288 (shapeCast S224x8192x1 v shapeCasts_S224x8192_S224x8192x1) broadcasts_S224x8192x1_S224x8192x12288 (ix3 g R N) = v (ix2 g R) := by
  rw [broadcastTo_apply _ _ _ (ix3 g R (0 : Fin 1)) (by
    intro a
    match a with
    | 0 => rfl
    | 1 => rfl
    | 2 => rfl)]
  refine shapeCast_apply _ _ _ _ ?_
  rw [Shape.rowMajor_val_three, Shape.rowMajor_val_two]
  show g.val * 8192 + R.val = (g.val * 8192 + R.val) * 1 + 0
  omega

/-- A table's entry repeated over the rows of the product. -/
theorem spreadR (v : FVec Ideal S224x12288 .f32) (g : Fin 224) (R : Fin 8192) (N : Fin 12288) :
    broadcastTo S224x8192x12288 (shapeCast S224x1x12288 v shapeCasts_S224x12288_S224x1x12288) broadcasts_S224x1x12288_S224x8192x12288 (ix3 g R N) = v (ix2 g N) := by
  rw [broadcastTo_apply _ _ _ (ix3 g (0 : Fin 1) N) (by
    intro a
    match a with
    | 0 => rfl
    | 1 => rfl
    | 2 => rfl)]
  refine shapeCast_apply _ _ _ _ ?_
  rw [Shape.rowMajor_val_three, Shape.rowMajor_val_two]
  show g.val * 12288 + N.val = (g.val * 1 + 0) * 12288 + N.val
  omega

theorem scaleStep {s : Shape} (b : IVec s 8) (i : s.Idx) :
    (vfl (exp2 (sitofp .f32 (subi (extui 32 b natLt_8_32) (broadcast s 127#32)))) i : EReal) = rscale (b i) := rfl

/-- The product of one group of columns. -/
theorem dot_apply (a : FVec Ideal S8192x224x32 .fp8e4m3) (b : FVec Ideal S12288x224x32 .fp8e4m3) (g : Fin 224) (R : Fin 8192) (N : Fin 12288) :
    (matmul dot_S8192x224x32_S12288x224x32_S224x8192x12288_2_2_0_0_1_1 none a b (constant S224x8192x12288 .f32 0x00000000#32 : FVec Ideal S224x8192x12288 .f32) (ix3 g R N) : EReal)
      = ∑ j : Fin 32, (a (ix3 R g j) : EReal) * b (ix3 N g j) := by
  refine (Ideal.matmul_apply₁_of dot_S8192x224x32_S12288x224x32_S224x8192x12288_2_2_0_0_1_1 rfl (K := 32) rfl a b
    (constant S224x8192x12288 .f32 0x00000000#32 : FVec Ideal S224x8192x12288 .f32) (ix3 g R N) (fun j => ix3 R g j) (fun j => ix3 N g j) ?_ ?_).trans ?_
  · intro k
    funext a
    match a with
    | 0 => rfl
    | 1 => rfl
    | 2 => rfl
  · intro k
    funext a
    match a with
    | 0 => rfl
    | 1 => rfl
    | 2 => rfl
  · rw [show ((constant S224x8192x12288 .f32 0x00000000#32 : FVec Ideal S224x8192x12288 .f32) (ix3 g R N) : EReal) = 0 from Ideal.ofBits_zero_f32, zero_add]

theorem weights_apply (W : Vec Ideal S12288x7168 .fp8e4m3) (N : Fin 12288) (g : Fin 224) (j : Fin 32) :
    shapeCast S12288x224x32 W shapeCasts_S12288x7168_S12288x224x32 (ix3 N g j) = W (ix2 N (lane g j)) := by
  refine shapeCast_apply _ _ _ _ ?_
  rw [Shape.rowMajor_val_three, Shape.rowMajor_val_two]
  show N.val * 7168 + (32 * g.val + j.val) = (N.val * 224 + g.val) * 32 + j.val
  omega

theorem flip_apply (v : FVec Ideal S8192x224 .f32) (g : Fin 224) (R : Fin 8192) :
    transpose S224x8192 [1, 0] v transposes_S8192x224_p1_0_S224x8192 (ix2 g R) = v (ix2 R g) := by
  refine transpose_apply _ _ _ _ _ ?_
  intro b
  match b with
  | 0 => rfl
  | 1 => rfl

theorem flipW_apply (v : FVec Ideal S12288x224 .f32) (g : Fin 224) (N : Fin 12288) :
    transpose S224x12288 [1, 0] v transposes_S12288x224_p1_0_S224x12288 (ix2 g N) = v (ix2 N g) := by
  refine transpose_apply _ _ _ _ _ ?_
  intro b
  match b with
  | 0 => rfl
  | 1 => rfl

theorem pay9_eq (e : IVec S8192x224 32) (q : FVec Ideal S8192x224x32 .f32) (cst : Ideal .f32) (W : Vec Ideal S12288x7168 .fp8e4m3) : k0_pay9 e q cst W =
    mulf (matmul dot_S8192x224x32_S12288x224x32_S224x8192x12288_2_2_0_0_1_1 none (k0_pay5 q cst) (shapeCast S12288x224x32 W shapeCasts_S12288x7168_S12288x224x32 : FVec Ideal S12288x224x32 .fp8e4m3)
        (constant S224x8192x12288 .f32 0x00000000#32))
      (broadcastTo S224x8192x12288 (shapeCast S224x8192x1 (transpose S224x8192 [1, 0]
        (vfl (exp2 (sitofp .f32 (subi (extui 32 (k0_pay6 e) natLt_8_32) (broadcast S8192x224 127#32))))) transposes_S8192x224_p1_0_S224x8192) shapeCasts_S224x8192_S224x8192x1)
        broadcasts_S224x8192x1_S224x8192x12288) := by
  unfold k0_pay9 vfl
  rfl

/-- One group's product, scaled by the activations' scale. -/
theorem pay9_apply (x : Vec Ideal S4x2048x7168 .bf16) (W : Vec Ideal S12288x7168 .fp8e4m3) (g : Fin 224) (R : Fin 8192) (N : Fin 12288) :
    (k0_pay9 (k0_pay3 x) (k0_pay4 x) (Scalar.ofBits .f32 0xC3E00000#32) W (ix3 g R N) : EReal)
      = (∑ j : Fin 32, code (xrow x R) (lane g j) * (W (ix2 N (lane g j)) : EReal)) * rscale (kbyte (amax (xrow x R) g)) := by
  rw [pay9_eq]
  refine (ValueIdx.mulf_apply _ _ _).trans ?_
  rw [spreadN, flip_apply, scaleStep, pay6_apply, dot_apply]
  refine congrArg (· * _) (Finset.sum_congr rfl fun j _ => ?_)
  rw [weights_apply, pay5_apply]

theorem pay10_eq (S : Vec Ideal S12288x224 .i8) : k0_pay10 (F := Ideal) S =
    transpose S224x12288 [1, 0] (vfl (exp2 (sitofp .f32 (subi (extui 32 S natLt_8_32) (broadcast S12288x224 127#32))))) transposes_S12288x224_p1_0_S224x12288 := by
  unfold k0_pay10 vfl
  rfl

/-- The weights' scales. -/
theorem pay10_apply (S : Vec Ideal S12288x224 .i8) (g : Fin 224) (N : Fin 12288) :
    (k0_pay10 (F := Ideal) S (ix2 g N) : EReal) = rscale (S (ix2 N g)) := by
  rw [pay10_eq, flipW_apply, scaleStep]

theorem biasR (b : FVec Ideal S12288 .f32) (R : Fin 8192) (N : Fin 12288) :
    broadcastTo S8192x12288 (shapeCast S1x12288 b shapeCasts_S12288_S1x12288) broadcasts_S1x12288_S8192x12288 (ix2 R N) = b (ix1 N) := by
  rw [broadcastTo_apply _ _ _ (ix2 (0 : Fin 1) N) (by
    intro a
    match a with
    | 0 => rfl
    | 1 => rfl)]
  refine shapeCast_apply _ _ _ _ ?_
  rw [Shape.rowMajor_val_two, Shape.rowMajor_val_one]
  show N.val = 0 * 12288 + N.val
  omega

/-- The sum over the groups. -/
theorem groups_apply (v : FVec Ideal S224x8192x12288 .f32) (R : Fin 8192) (N : Fin 12288) :
    (multiReduction (F := Ideal) .add [0] S8192x12288 v 0x00000000#32 reduces_S224x8192x12288_S8192x12288 (.inl rfl) rfl (ix2 R N) : EReal)
      = ∑ g : Fin 224, (v (ix3 g R N) : EReal) := by
  refine (multiReduction_add_apply (F := Ideal) v 0x00000000#32 reduces_S224x8192x12288_S8192x12288 (.inl rfl) rfl (ix2 R N)).trans ?_
  refine (Ideal.reduceAdd_r3_a0 reduces_S224x8192x12288_S8192x12288 v (ix2 R N)).trans ?_
  rfl

/-- The reference's first result at row `R` (counted through the batches) and column `N`. -/
theorem pay1_apply (v79 : FVec Ideal S224x8192x12288 .f32) (v80 : FVec Ideal S224x12288 .f32) (b : Vec Ideal S12288 .f32) (i : S4x2048x12288.Idx)
    (R : Fin 8192) (hR : R.val = (i 0).val * 2048 + (i 1).val) :
    (k0_pay1 v79 v80 b i : EReal) = (∑ g : Fin 224, (v79 (ix3 g R (i 2)) : EReal) * v80 (ix2 g (i 2))) + (b (ix1 (i 2)) : EReal) := by
  unfold k0_pay1
  refine (shapeCast_apply _ shapeCasts_S8192x12288_S4x2048x12288 i (ix2 R (i 2)) (by
    rw [Shape.rowMajor_val_three, Shape.rowMajor_val_two]
    show R.val * 12288 + (i 2).val = ((i 0).val * 2048 + (i 1).val) * 12288 + (i 2).val
    rw [hR])).trans ?_
  refine (ValueIdx.addf_apply _ _ _).trans ?_
  refine congrArg₂ (fun (p q : EReal) => p + q) ((groups_apply _ _ _).trans (Finset.sum_congr rfl fun g _ => ?_)) (biasR b R (i 2))
  refine (ValueIdx.mulf_apply _ _ _).trans ?_
  exact congrArg (fun q : EReal => (v79 (ix3 g R (i 2)) : EReal) * q) (spreadR v80 g R (i 2))

end Cert.RefValue
-- ==== Proof.Equation.lean ====
module
public import proofs.«01_k».proof.Proof.RefValue
@[expose] public section
set_option maxRecDepth 16384
/-!
# The kernel's results are the reference's

Row by row and element by element. The codes and the scale bytes agree because both sides quantize the same row with the same
exponents. For the product the kernel scales every factor and sums over all 7168 columns; the reference sums the unscaled
products of each group of 32 columns, scales each group's sum, and adds the groups up. A scale is a nonnegative real, so it comes
out of a sum of extended reals.
-/
noncomputable section
namespace Cert.Equation
open Cert.ReferenceIdeal Cert.ReferenceIdeal.Gen Cert.Exponent Cert.RefValue
open Cert.BlockValue (lane grp amax code)
open Cert.Arrays (arow codesArr bytesArr deqArr wArr yArr)
open Idealize.ShloMosaic hiding ix1 ix2 ix3
open Idealize.ShloMosaic.TcCoe Idealize.ShloMosaic.ValueIdx

/-! ## Sums -/

/-- A nonnegative real comes out of a sum of extended reals. -/
theorem sum_mul_real {ι : Type} (S : Finset ι) (f : ι → EReal) (r : ℝ) (hr : 0 ≤ r) :
    ∑ k ∈ S, f k * (r : EReal) = (∑ k ∈ S, f k) * (r : EReal) := by
  classical
  induction S using Finset.induction_on with
  | empty => simp
  | insert a S ha ih =>
    rw [Finset.sum_insert ha, Finset.sum_insert ha, ih]
    exact (EReal.right_distrib_of_nonneg_of_ne_top (by exact_mod_cast hr) (EReal.coe_ne_top r) _ _).symm

/-- Column `k` is place `k mod 32` of its group. -/
theorem lane_grp (k : Fin 7168) : lane (grp k) (⟨k.val % 32, by omega⟩ : Fin 32) = k := by
  apply Fin.ext
  show 32 * (k.val / 32) + k.val % 32 = k.val
  omega

/-- The columns as groups and places. -/
def split : Fin 224 × Fin 32 ≃ Fin 7168 where
  toFun p := lane p.1 p.2
  invFun k := (grp k, ⟨k.val % 32, by omega⟩)
  left_inv p := by
    have h2 := p.2.isLt
    refine Prod.ext (grp_lane p.1 p.2) (Fin.ext ?_)
    show (32 * p.1.val + p.2.val) % 32 = p.2.val
    omega
  right_inv k := lane_grp k

/-- A sum over the columns is the sum over the groups of the sums over the places. -/
theorem sum_groups (f : Fin 7168 → EReal) : ∑ k, f k = ∑ g : Fin 224, ∑ j : Fin 32, f (lane g j) := by
  rw [← Equiv.sum_comp split f, Fintype.sum_prod_type]
  rfl

/-- One element of the product: scaling every factor is scaling every group's sum. -/
theorem scaled_sum (q w : Fin 7168 → EReal) (s t : Fin 224 → EReal)
    (hs : ∀ g, ∃ r : ℝ, 0 ≤ r ∧ s g = (r : EReal)) (ht : ∀ g, ∃ r : ℝ, 0 ≤ r ∧ t g = (r : EReal)) :
    ∑ k, (q k * s (grp k)) * (w k * t (grp k)) = ∑ g : Fin 224, (∑ j : Fin 32, q (lane g j) * w (lane g j)) * s g * t g := by
  rw [sum_groups]
  refine Finset.sum_congr rfl fun g _ => ?_
  obtain ⟨r, hr, er⟩ := hs g
  obtain ⟨u, hu, eu⟩ := ht g
  rw [er, eu, ← sum_mul_real _ _ r hr, ← sum_mul_real _ _ u hu]
  refine Finset.sum_congr rfl fun j _ => ?_
  rw [grp_lane, er, eu]
  ac_rfl

/-! ## Rows -/

/-- The row of the results' index `(b, s)`. -/
def rowIx (b : Fin 4) (s : Fin 2048) : Fin 8192 := ⟨b.val * 2048 + s.val, by have := b.isLt; have := s.isLt; omega⟩

/-- The matrix of the activations has the batches' rows. -/
theorem arow_eq (x : Vec Ideal S4x2048x7168 .bf16) (h : S4x2048x7168.ShapeCasts Cert.KernelIdeal.S8192x7168) (R : Fin 8192) :
    arow (shapeCast Cert.KernelIdeal.S8192x7168 x h) R = xrow x R := by
  funext k
  unfold arow xrow
  refine shapeCast_apply _ h _ _ ?_
  rw [Shape.rowMajor_val_two, Shape.rowMajor_val_three]
  show (R.val / 2048 * 2048 + R.val % 2048) * 7168 + k.val = R.val * 7168 + k.val
  omega

theorem read_x (x : Vec Ideal S4x2048x7168 .bf16) : View.ld x r0_0 = x :=
  View.ld_unit_zero (S := S4x2048x7168) (by funext a; match a with | 0 => rfl | 1 => rfl | 2 => rfl) _ x

theorem pay11_eq (x : Vec Ideal S4x2048x7168 .bf16) (W : Vec Ideal S12288x7168 .fp8e4m3) (S : Vec Ideal S12288x224 .i8) (b : Vec Ideal S12288 .f32) :
    k0_pay11 (F := Ideal) x W S b = k0_pay3 x := by
  show k0_pay3 (View.ld x r0_0) = _
  rw [read_x]
theorem pay12_eq (x : Vec Ideal S4x2048x7168 .bf16) (W : Vec Ideal S12288x7168 .fp8e4m3) (S : Vec Ideal S12288x224 .i8) (b : Vec Ideal S12288 .f32) :
    k0_pay12 (F := Ideal) x W S b = k0_pay4 x := by
  show k0_pay4 (View.ld x r0_0) = _
  rw [read_x]

/-! ## The three results -/

variable (x : Vec Ideal S4x2048x7168 .bf16) (W : Vec Ideal S12288x7168 .fp8e4m3) (S : Vec Ideal S12288x224 .i8) (b : Vec Ideal S12288 .f32)

omit W S b in
/-- A code, as the kernel's array holds it. -/
theorem codes_at (h : S4x2048x7168.ShapeCasts Cert.KernelIdeal.S8192x7168) (R : Fin 8192) (k : Fin 7168) :
    codesArr (shapeCast Cert.KernelIdeal.S8192x7168 x h) (ix2 R k) = code (xrow x R) k := by
  show code (arow (shapeCast Cert.KernelIdeal.S8192x7168 x h) R) k = _
  rw [arow_eq]

omit W S b in
/-- A code, as the reference's array of groups holds it. -/
theorem pay5_at (R : Fin 8192) (k : Fin 7168) :
    (k0_pay5 (k0_pay4 x) (Scalar.ofBits .f32 0xC3E00000#32) (ix3 R (grp k) (⟨k.val % 32, by omega⟩ : Fin 32)) : EReal) = code (xrow x R) k :=
  (pay5_apply x R (grp k) (⟨k.val % 32, by omega⟩ : Fin 32)).trans (by rw [lane_grp])

/-- The second result, the codes. -/
theorem codes_eq (h : S4x2048x7168.ShapeCasts Cert.KernelIdeal.S8192x7168) (h' : Cert.KernelIdeal.S8192x7168.ShapeCasts S4x2048x7168) :
    (shapeCast S4x2048x7168 (codesArr (shapeCast Cert.KernelIdeal.S8192x7168 x h)) h' : Vec Ideal S4x2048x7168 .fp8e4m3) = Cert.RefRun.G5 x W S b := by
  show _ = k0_pay7 (k0_pay12 x W S b) (Scalar.ofBits .f32 0xC3E00000#32)
  rw [pay12_eq]
  funext i
  have hk : (i 2).val < 7168 := (i 2).isLt
  refine (shapeCast_apply _ h' i (ix2 (rowIx (i 0) (i 1)) (i 2)) (by
    rw [Shape.rowMajor_val_three, Shape.rowMajor_val_two]; rfl)).trans ?_
  unfold k0_pay7
  refine Eq.trans ?_ (shapeCast_apply (k0_pay5 (k0_pay4 x) (Scalar.ofBits .f32 0xC3E00000#32)) shapeCasts_S8192x224x32_S4x2048x7168 i
    (ix3 (rowIx (i 0) (i 1)) (grp (i 2)) (⟨(i 2).val % 32, by omega⟩ : Fin 32)) (by
      rw [Shape.rowMajor_val_three, Shape.rowMajor_val_three]
      show (((i 0).val * 2048 + (i 1).val) * 224 + (i 2).val / 32) * 32 + (i 2).val % 32 = ((i 0).val * 2048 + (i 1).val) * 7168 + (i 2).val
      omega)).symm
  exact (codes_at x h (rowIx (i 0) (i 1)) (i 2)).trans (pay5_at x (rowIx (i 0) (i 1)) (i 2)).symm

/-- The third result, the scale bytes. -/
theorem bytes_eq (h : S4x2048x7168.ShapeCasts Cert.KernelIdeal.S8192x7168) (h' : Cert.KernelIdeal.S8192x224.ShapeCasts S4x2048x224) :
    (shapeCast S4x2048x224 (bytesArr (shapeCast Cert.KernelIdeal.S8192x7168 x h)) h' : Vec Ideal S4x2048x224 .i8) = Cert.RefRun.G6 x W S b := by
  show _ = k0_pay8 (k0_pay11 x W S b)
  rw [pay11_eq]
  funext i
  refine (shapeCast_apply _ h' i (ix2 (rowIx (i 0) (i 1)) (i 2)) (by
    rw [Shape.rowMajor_val_three, Shape.rowMajor_val_two]; rfl)).trans ?_
  unfold k0_pay8
  refine Eq.trans ?_ (shapeCast_apply (k0_pay6 (k0_pay3 x)) shapeCasts_S8192x224_S4x2048x224 i (ix2 (rowIx (i 0) (i 1)) (i 2)) (by
    rw [Shape.rowMajor_val_three, Shape.rowMajor_val_two]; rfl)).symm
  refine Eq.trans ?_ (pay6_apply x (rowIx (i 0) (i 1)) (i 2)).symm
  rw [← arow_eq x h]
  rfl

/-- The bias as a row. -/
theorem bias_at (h : S12288.ShapeCasts Cert.KernelIdeal.S1x12288) (N : Fin 12288) :
    shapeCast Cert.KernelIdeal.S1x12288 b h (ix2 (0 : Fin 1) N) = b (ix1 N) := by
  refine shapeCast_apply _ h _ _ ?_
  rw [Shape.rowMajor_val_two, Shape.rowMajor_val_one]
  show N.val = 0 * 12288 + N.val
  omega

/-- One element of the first result, as the kernel has it and as the reference has it. -/
theorem product_at (hS : ∀ i, (S i).toNat ≤ 254) (h : S4x2048x7168.ShapeCasts Cert.KernelIdeal.S8192x7168) (R : Fin 8192) (N : Fin 12288) :
    (∑ k : Fin 7168, (deqArr (shapeCast Cert.KernelIdeal.S8192x7168 x h) (ix2 R k) : EReal) * wArr W S (ix2 N k))
      = ∑ g : Fin 224, (∑ j : Fin 32, code (xrow x R) (lane g j) * (W (ix2 N (lane g j)) : EReal)) * rscale (kbyte (amax (xrow x R) g)) * rscale (S (ix2 N g)) := by
  rw [← scaled_sum (fun k => code (xrow x R) k) (fun k => W (ix2 N k)) (fun g => rscale (kbyte (amax (xrow x R) g))) (fun g => rscale (S (ix2 N g)))
    (fun g => by
      obtain ⟨r, hr, e⟩ := kfwd_real _ (BlockValue.amax_nonneg (xrow x R) g)
      exact ⟨r, hr, by rw [← kfwd_eq _ (BlockValue.amax_nonneg _ _), e]⟩)
    (fun g => pw_byte_real _ (hS _))]
  refine Finset.sum_congr rfl fun k _ => ?_
  show (code (arow (shapeCast Cert.KernelIdeal.S8192x7168 x h) R) k * kfwd (amax (arow (shapeCast Cert.KernelIdeal.S8192x7168 x h) R) (grp k)))
    * ((W (ix2 N k) : EReal) * pw (BitVec.setWidth 32 (S (ix2 N (grp k))))) = _
  rw [arow_eq, pw_byte _ (hS _), kfwd_eq _ (BlockValue.amax_nonneg _ _)]

/-- The first result, the product with its bias. -/
theorem product_eq (hS : ∀ i, (S i).toNat ≤ 254) (h : S4x2048x7168.ShapeCasts Cert.KernelIdeal.S8192x7168)
    (hb : S12288.ShapeCasts Cert.KernelIdeal.S1x12288) (h' : Cert.KernelIdeal.S8192x12288.ShapeCasts S4x2048x12288) :
    (shapeCast S4x2048x12288 (yArr (deqArr (shapeCast Cert.KernelIdeal.S8192x7168 x h)) (wArr W S) (shapeCast Cert.KernelIdeal.S1x12288 b hb)) h'
      : Vec Ideal S4x2048x12288 .bf16) = Cert.RefRun.G4 x W S b := by
  show _ = k0_pay1 (k0_pay9 (k0_pay11 x W S b) (k0_pay12 x W S b) (Scalar.ofBits .f32 0xC3E00000#32) W) (k0_pay10 S) b
  rw [pay11_eq, pay12_eq]
  funext i
  refine (shapeCast_apply _ h' i (ix2 (rowIx (i 0) (i 1)) (i 2)) (by
    rw [Shape.rowMajor_val_three, Shape.rowMajor_val_two]; rfl)).trans ?_
  refine Eq.trans ?_ (pay1_apply _ _ b i (rowIx (i 0) (i 1)) rfl).symm
  refine congrArg₂ (fun p q : EReal => p + q) ((product_at x W S hS h (rowIx (i 0) (i 1)) (i 2)).trans ?_) (bias_at b hb (i 2))
  refine Finset.sum_congr rfl fun g _ => ?_
  exact (congrArg₂ (fun p q : EReal => p * q) (pay9_apply x W g (rowIx (i 0) (i 1)) (i 2)) (pay10_apply S g (i 2))).symm

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_are_numbers
public import proofs.«01_k».proof.Proof.KRun
public import proofs.«01_k».proof.Proof.HostValues
public import proofs.«01_k».proof.Proof.Equation
public import Idealize.ShloMosaic.Lib.ReduceAll
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The precondition read at an index: a weight scale is one of the codes 0 to 254. -/
theorem scale_at (x : Vec Ideal Cert.KernelIdeal.S4x2048x7168 .bf16) (W : Vec Ideal Cert.KernelIdeal.S12288x7168 .fp8e4m3)
    (S : Vec Ideal Cert.KernelIdeal.S12288x224 .i8) (b : Vec Ideal Cert.KernelIdeal.S12288 .f32) (hf : Cert.Pre_scales_are_numbers.Facts)
    (h : Cert.Pre_scales_are_numbers.fn (F := Ideal) x W S b = fun _ => 1#1) (i : Cert.KernelIdeal.S12288x224.Idx) : (S i).toNat ≤ 254 := by
  have h0 := congrFun h (fun a => nomatch a)
  haveI : Subsingleton Cert.Pre_scales_are_numbers.S_.Idx := ⟨fun p q => funext fun a => nomatch a⟩
  have h1 : IntOp.cmpi .slt ((S i).setWidth 32) 255#32 = 1#1 := Host.reduce_andi_all _ _ _ _ _ h0 i
  have key : ∀ w : BitVec 8, IntOp.cmpi .slt (w.setWidth 32) 255#32 = 1#1 → w.toNat ≤ 254 := by decide +kernel
  exact key _ h1

/-- The kernel and the reference end with the same three results. -/
theorem values (hf : Cert.Pre_scales_are_numbers.Facts) :
    algebraic_KernelIdeal_ReferenceIdeal_pre_scales_are_numbers (hKernelIdeal := Cert.KernelIdeal.Gen.facts)
      (hReferenceIdeal := Cert.ReferenceIdeal.Gen.facts) (hPre_scales_are_numbers := hf) := by
  intro m g m' g' hpre hagree
  refine ⟨fun c => Cert.KernelIdeal.Gen.W8 m g c (Proc.devRef .tc Cert.KernelIdeal.main_v20), fun c => Cert.KernelIdeal.Gen.W8 m g c (Proc.devRef .tc Cert.KernelIdeal.main_v21),
    fun c => Cert.KernelIdeal.Gen.W8 m g c (Proc.devRef .tc Cert.KernelIdeal.main_v22), Cert.KernelRun.run m g,
    (θ_run Cert.ReferenceIdeal.defs _ _).mono (fun r h c => ?_) (Cert.RefRun.run m' g')⟩
  obtain ⟨h0, h1, h2, ha⟩ := h c
  obtain ⟨e0, e1, e2, e3⟩ := hagree c
  rw [e0, e1, e2, e3] at h0 h1 h2
  refine ⟨h0.trans ?_, h1.trans ?_, h2.trans ?_, ha⟩
  · refine Eq.trans ?_ (Cert.HostValues.out0 m g c).symm
    exact (Cert.Equation.product_eq _ _ _ _ (scale_at _ _ _ _ hf (hpre c)) _ _ _).symm
  · refine Eq.trans ?_ (Cert.HostValues.out1 m g c).symm
    exact (Cert.Equation.codes_eq _ _ _ _ _ _).symm
  · refine Eq.trans ?_ (Cert.HostValues.out2 m g c).symm
    exact (Cert.Equation.bytes_eq _ _ _ _ _ _).symm

/-- The kernel as printed, the kernel at the ideal numbers and the reference each run to the end, leave their arguments as
    they were and every counter at zero; a pair of bf16 rows held in one word, and its roll, are the two rows and theirs; and the
    kernel's three results are the reference's. -/
theorem claim : Cert.Claim := ⟨Cert.Kernel.Gen.facts, Cert.KernelIdeal.Gen.facts, Cert.ReferenceIdeal.Gen.facts,
  Cert.Pre_scales_are_numbers.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, IdealRules.bf16_pair.statement _ _,
  values Cert.Pre_scales_are_numbers.Gen.facts⟩

end Cert.Proof

end
